-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_name_an_adapter [hPre_ids_name_an_adapter : Cert.Pre_ids_name_an_adapter.Facts] (m : (ℓ : Loc Cert.KernelIdeal.nD Cert.KernelIdeal.τ Cert.KernelIdeal.sig) → Buf (Elt Ideal) ℓ) : Prop :=
  ∀ c : Dev Cert.KernelIdeal.nD,
    (Cert.Pre_ids_name_an_adapter.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_name_an_adapter [hPre_ids_name_an_adapter : Cert.Pre_ids_name_an_adapter.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_name_an_adapter.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_ids_name_an_adapter [hKernelIdeal : Cert.KernelIdeal.Facts] [hPre_ids_name_an_adapter : Cert.Pre_ids_name_an_adapter.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_name_an_adapter m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_ids_name_an_adapter [hReferenceIdeal : Cert.ReferenceIdeal.Facts] [hPre_ids_name_an_adapter : Cert.Pre_ids_name_an_adapter.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_name_an_adapter m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_ids_name_an_adapter [hKernelIdeal : Cert.KernelIdeal.Facts] [hReferenceIdeal : Cert.ReferenceIdeal.Facts] [hPre_ids_name_an_adapter : Cert.Pre_ids_name_an_adapter.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_name_an_adapter m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v12) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_v65) = v3 c
          ∧ r.2.mem ((c.tc : Thread Cert.ReferenceIdeal.nD Cert.ReferenceIdeal.τ).loc Cert.ReferenceIdeal.main_v66) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_ids_name_an_adapter : Cert.Pre_ids_name_an_adapter.Facts),
    quiescent_Kernel (hKernel := hKernel)
    ∧ quiescent_KernelIdeal (hKernelIdeal := hKernelIdeal)
    ∧ quiescent_KernelIdeal_pre_ids_name_an_adapter (hKernelIdeal := hKernelIdeal) (hPre_ids_name_an_adapter := hPre_ids_name_an_adapter)
    ∧ quiescent_ReferenceIdeal (hReferenceIdeal := hReferenceIdeal)
    ∧ quiescent_ReferenceIdeal_pre_ids_name_an_adapter (hReferenceIdeal := hReferenceIdeal) (hPre_ids_name_an_adapter := hPre_ids_name_an_adapter)
    ∧ preserves_Kernel_KernelIdeal
    ∧ algebraic_KernelIdeal_ReferenceIdeal_pre_ids_name_an_adapter (hKernelIdeal := hKernelIdeal) (hReferenceIdeal := hReferenceIdeal) (hPre_ids_name_an_adapter := hPre_ids_name_an_adapter)
-- ==== Pre_ids_name_an_adapter.lean ====
abbrev S3x384x14336 : Shape := ⟨3, ![3, 384, 14336]⟩
abbrev S3x384x4096 : Shape := ⟨3, ![3, 384, 4096]⟩
abbrev S7168x4096 : Shape := ⟨2, ![7168, 4096]⟩
abbrev S112x4096 : Shape := ⟨2, ![112, 4096]⟩
abbrev S5x14336x16 : Shape := ⟨3, ![5, 14336, 16]⟩
abbrev S5x16x4096 : Shape := ⟨3, ![5, 16, 4096]⟩
abbrev S3x384 : Shape := ⟨2, ![3, 384]⟩
abbrev S_ : Shape := ⟨0, ![]⟩

class Facts : Prop where
  bcast_S_S3x384 : S_.BroadcastsInDim S3x384 (![] : Fin 0 → Fin S3x384.rank)

variable [Facts]

def fn {F : FTy → Type} [FloatOps F] (main_arg0 : FVec F S3x384x14336 .bf16) (main_arg1 : FVec F S3x384x4096 .bf16) (main_arg2 : IVec S7168x4096 8) (main_arg3 : FVec F S112x4096 .bf16) (main_arg4 : FVec F S5x14336x16 .bf16) (main_arg5 : FVec F S5x16x4096 .bf16) (main_arg6 : IVec S3x384 32) : IVec S3x384 1 :=
  let main_c : IVec S_ 32 := constantI S_ 32 0#32
  let main_v0 : IVec S3x384 32 := broadcastInDim S3x384 ![] bcast_S_S3x384 main_c
  let main_v1 : IVec S3x384 1 := cmpi .sge main_arg6 main_v0
  let main_c_0 : IVec S_ 32 := constantI S_ 32 5#32
  let main_v2 : IVec S3x384 32 := broadcastInDim S3x384 ![] bcast_S_S3x384 main_c_0
  let main_v3 : IVec S3x384 1 := cmpi .slt main_arg6 main_v2
  let main_v4 : IVec S3x384 1 := andi main_v1 main_v3
  main_v4
-- ==== Kernel.lean ====
abbrev S3x384x14336 : Shape := ⟨3, ![3, 384, 14336]⟩
abbrev S3x384x4096 : Shape := ⟨3, ![3, 384, 4096]⟩
abbrev S7168x4096 : Shape := ⟨2, ![7168, 4096]⟩
abbrev S112x4096 : Shape := ⟨2, ![112, 4096]⟩
abbrev S5x14336x16 : Shape := ⟨3, ![5, 14336, 16]⟩
abbrev S5x16x4096 : Shape := ⟨3, ![5, 16, 4096]⟩
abbrev S3x384 : Shape := ⟨2, ![3, 384]⟩
abbrev S1152x14336 : Shape := ⟨2, ![1152, 14336]⟩
abbrev S1152x4096 : Shape := ⟨2, ![1152, 4096]⟩
abbrev S5x16x14336 : Shape := ⟨3, ![5, 16, 14336]⟩
abbrev S80x14336 : Shape := ⟨2, ![80, 14336]⟩
abbrev S80x4096 : Shape := ⟨2, ![80, 4096]⟩
abbrev S1x1152 : Shape := ⟨2, ![1, 1152]⟩
abbrev S3x16x384 : Shape := ⟨3, ![3, 16, 384]⟩
abbrev S1152x1024 : Shape := ⟨2, ![1152, 1024]⟩
abbrev S512x4096 : Shape := ⟨2, ![512, 4096]⟩
abbrev S8x4096 : Shape := ⟨2, ![8, 4096]⟩
abbrev S80x1024 : Shape := ⟨2, ![80, 1024]⟩
abbrev S80x1152 : Shape := ⟨2, ![80, 1152]⟩
abbrev S1152x80 : Shape := ⟨2, ![1152, 80]⟩
abbrev S1024x4096 : Shape := ⟨2, ![1024, 4096]⟩
abbrev S16x1152 : Shape := ⟨2, ![16, 1152]⟩
abbrev S16x384 : Shape := ⟨2, ![16, 384]⟩
abbrev S1x16x384 : Shape := ⟨3, ![1, 16, 384]⟩
abbrev S64x4096 : Shape := ⟨2, ![64, 4096]⟩
abbrev S128x4096 : Shape := ⟨2, ![128, 4096]⟩
abbrev S1x4096 : Shape := ⟨2, ![1, 4096]⟩
abbrev S3x384x16 : Shape := ⟨3, ![3, 384, 16]⟩

abbrev nBuf : Space → Nat
  | .hbm => 24
  | .vmem => 22
  | .smem => 0
  | _ => 0

abbrev bufTy : (tb : Table) → Fin (tcTables nBuf tb) → BufTy
  | .hbm, ⟨0, _⟩ => ⟨S3x384x14336, .bf16⟩
  | .hbm, ⟨1, _⟩ => ⟨S3x384x4096, .bf16⟩
  | .hbm, ⟨2, _⟩ => ⟨S7168x4096, .i8⟩
  | .hbm, ⟨3, _⟩ => ⟨S112x4096, .bf16⟩
  | .hbm, ⟨4, _⟩ => ⟨S5x14336x16, .bf16⟩
  | .hbm, ⟨5, _⟩ => ⟨S5x16x4096, .bf16⟩
  | .hbm, ⟨6, _⟩ => ⟨S3x384, .i32⟩
  | .hbm, ⟨7, _⟩ => ⟨S1152x14336, .bf16⟩
  | .hbm, ⟨8, _⟩ => ⟨S1152x4096, .bf16⟩
  | .hbm, ⟨9, _⟩ => ⟨S5x16x14336, .bf16⟩
  | .hbm, ⟨10, _⟩ => ⟨S80x14336, .bf16⟩
  | .hbm, ⟨11, _⟩ => ⟨S80x4096, .bf16⟩
  | .hbm, ⟨12, _⟩ => ⟨S1x1152, .i32⟩
  | .hbm, ⟨13, _⟩ => ⟨S1152x14336, .bf16⟩
  | .hbm, ⟨14, _⟩ => ⟨S80x14336, .f32⟩
  | .hbm, ⟨15, _⟩ => ⟨S80x4096, .f32⟩
  | .hbm, ⟨16, _⟩ => ⟨S3x16x384, .bf16⟩
  | .hbm, ⟨17, _⟩ => ⟨S3x16x384, .bf16⟩
  | .hbm, ⟨18, _⟩ => ⟨S3x384x14336, .bf16⟩
  | .hbm, ⟨19, _⟩ => ⟨S5x16x14336, .f32⟩
  | .hbm, ⟨20, _⟩ => ⟨S5x14336x16, .f32⟩
  | .hbm, ⟨21, _⟩ => ⟨S5x16x4096, .f32⟩
  | .hbm, ⟨22, _⟩ => ⟨S3x384x16, .bf16⟩
  | .hbm, ⟨23, _⟩ => ⟨S3x384x16, .bf16⟩
  | .local _ .vmem, ⟨0, _⟩ => ⟨S1x1152, .i32⟩
  | .local _ .vmem, ⟨1, _⟩ => ⟨S1152x4096, .bf16⟩
  | .local _ .vmem, ⟨2, _⟩ => ⟨S1152x1024, .bf16⟩
  | .local _ .vmem, ⟨3, _⟩ => ⟨S1152x1024, .bf16⟩
  | .local _ .vmem, ⟨4, _⟩ => ⟨S512x4096, .i8⟩
  | .local _ .vmem, ⟨5, _⟩ => ⟨S512x4096, .i8⟩
  | .local _ .vmem, ⟨6, _⟩ => ⟨S8x4096, .bf16⟩
  | .local _ .vmem, ⟨7, _⟩ => ⟨S8x4096, .bf16⟩
  | .local _ .vmem, ⟨8, _⟩ => ⟨S80x1024, .bf16⟩
  | .local _ .vmem, ⟨9, _⟩ => ⟨S80x1024, .bf16⟩
  | .local _ .vmem, ⟨10, _⟩ => ⟨S80x4096, .bf16⟩
  | .local _ .vmem, ⟨11, _⟩ => ⟨S1152x1024, .bf16⟩
  | .local _ .vmem, ⟨12, _⟩ => ⟨S1152x1024, .bf16⟩
  | .local _ .vmem, ⟨13, _⟩ => ⟨S80x1024, .f32⟩
  | .local _ .vmem, ⟨14, _⟩ => ⟨S80x1024, .f32⟩
  | .local _ .vmem, ⟨15, _⟩ => ⟨S80x4096, .f32⟩
  | .local _ .vmem, ⟨16, _⟩ => ⟨S3x16x384, .bf16⟩
  | .local _ .vmem, ⟨17, _⟩ => ⟨S3x16x384, .bf16⟩
  | .local _ .vmem, ⟨18, _⟩ => ⟨S80x1152, .bf16⟩
  | .local _ .vmem, ⟨19, _⟩ => ⟨S1152x80, .bf16⟩
  | .local _ .vmem, ⟨20, _⟩ => ⟨S80x1152, .f32⟩
  | .local _ .vmem, ⟨21, _⟩ => ⟨S1024x4096, .bf16⟩
  | _, _ => ⟨S3x384x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![14], ![false]⟩

def k0_cond2 (i : grid0.Coords) : BitVec 1 :=
  let arg0 : BitVec 32 := BitVec.ofNat 32 (i 0).val
  let c13_i32 : BitVec 32 := 13#32
  let v175 : BitVec 1 := Scalar.cmpi .eq arg0 c13_i32
  let v176 : BitVec 32 := Scalar.extui v175
  let c0_i32_78 : BitVec 32 := 0#32
  let v177 : BitVec 1 := Scalar.cmpi .ne v176 c0_i32_78
  v177

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1x1152 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1152x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S80x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S80x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1152x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S80x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S80x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x16x384 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x16x384 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S3x384x14336 : Shape := ⟨3, ![3, 384, 14336]⟩
abbrev S3x384x4096 : Shape := ⟨3, ![3, 384, 4096]⟩
abbrev S7168x4096 : Shape := ⟨2, ![7168, 4096]⟩
abbrev S112x4096 : Shape := ⟨2, ![112, 4096]⟩
abbrev S5x14336x16 : Shape := ⟨3, ![5, 14336, 16]⟩
abbrev S5x16x4096 : Shape := ⟨3, ![5, 16, 4096]⟩
abbrev S3x384 : Shape := ⟨2, ![3, 384]⟩
abbrev S1152x14336 : Shape := ⟨2, ![1152, 14336]⟩
abbrev S1152x4096 : Shape := ⟨2, ![1152, 4096]⟩
abbrev S1152 : Shape := ⟨1, ![1152]⟩
abbrev S_ : Shape := ⟨0, ![]⟩
abbrev S112x64x4096 : Shape := ⟨3, ![112, 64, 4096]⟩
abbrev S1152x7168 : Shape := ⟨2, ![1152, 7168]⟩
abbrev S1152x7168x1 : Shape := ⟨3, ![1152, 7168, 1]⟩
abbrev S1152x7168x2 : Shape := ⟨3, ![1152, 7168, 2]⟩
abbrev S1152x5x16 : Shape := ⟨3, ![1152, 5, 16]⟩
abbrev S1152x1x1 : Shape := ⟨3, ![1152, 1, 1]⟩
abbrev S1 : Shape := ⟨1, ![1]⟩
abbrev S1x1x1 : Shape := ⟨3, ![1, 1, 1]⟩
abbrev S1152x1 : Shape := ⟨2, ![1152, 1]⟩
abbrev S1152x1x16 : Shape := ⟨3, ![1152, 1, 16]⟩
abbrev S1152x16 : Shape := ⟨2, ![1152, 16]⟩
abbrev S1x5 : Shape := ⟨2, ![1, 5]⟩
abbrev S1152x5 : Shape := ⟨2, ![1152, 5]⟩
abbrev S1152x5x1 : Shape := ⟨3, ![1152, 5, 1]⟩
abbrev S5x16x14336 : Shape := ⟨3, ![5, 16, 14336]⟩
abbrev S3x384x16 : Shape := ⟨3, ![3, 384, 16]⟩

abbrev nBuf : Space → Nat
  | .hbm => 129
  | .vmem => 0
  | .smem => 0
  | _ => 0

abbrev hbmTy0_0 (i : Nat) : BufTy := match i % 128 with
  | 0 => ⟨S3x384x14336, .bf16⟩
  | 1 => ⟨S3x384x4096, .bf16⟩
  | 2 => ⟨S7168x4096, .i8⟩
  | 3 => ⟨S112x4096, .bf16⟩
  | 4 => ⟨S5x14336x16, .bf16⟩
  | 5 => ⟨S5x16x4096, .bf16⟩
  | 6 => ⟨S3x384, .i32⟩
  | 7 => ⟨S1152x14336, .bf16⟩
  | 8 => ⟨S1152x4096, .bf16⟩
  | 9 => ⟨S1152, .i32⟩
  | 10 => ⟨S_, .f32⟩
  | 11 => ⟨S_, .f32⟩
  | 12 => ⟨S_, .f32⟩
  | 13 => ⟨S7168x4096, .i32⟩
  | 14 => ⟨S_, .i32⟩
  | 15 => ⟨S7168x4096, .i32⟩
  | 16 => ⟨S7168x4096, .i32⟩
  | 17 => ⟨S_, .i32⟩
  | 18 => ⟨S7168x4096, .i32⟩
  | 19 => ⟨S7168x4096, .i32⟩
  | 20 => ⟨S_, .i32⟩
  | 21 => ⟨S7168x4096, .i32⟩
  | 22 => ⟨S7168x4096, .i1⟩
  | 23 => ⟨S_, .i32⟩
  | 24 => ⟨S7168x4096, .i32⟩
  | 25 => ⟨S7168x4096, .i32⟩
  | 26 => ⟨S7168x4096, .i32⟩
  | 27 => ⟨S_, .i32⟩
  | 28 => ⟨S7168x4096, .i32⟩
  | 29 => ⟨S7168x4096, .i1⟩
  | 30 => ⟨S_, .i32⟩
  | 31 => ⟨S7168x4096, .i32⟩
  | 32 => ⟨S7168x4096, .i32⟩
  | 33 => ⟨S7168x4096, .i32⟩
  | 34 => ⟨S112x64x4096, .bf16⟩
  | 35 => ⟨S7168x4096, .bf16⟩
  | 36 => ⟨S7168x4096, .bf16⟩
  | 37 => ⟨S7168x4096, .bf16⟩
  | 38 => ⟨S7168x4096, .bf16⟩
  | 39 => ⟨S7168x4096, .bf16⟩
  | 40 => ⟨S1152x7168, .f32⟩
  | 41 => ⟨S1152x7168, .f32⟩
  | 42 => ⟨S1152x7168x1, .f32⟩
  | 43 => ⟨S1152x7168x1, .f32⟩
  | 44 => ⟨S1152x7168x2, .f32⟩
  | 45 => ⟨S1152x14336, .f32⟩
  | 46 => ⟨S1152x5x16, .f32⟩
  | 47 => ⟨S1152x5x16, .f32⟩
  | 48 => ⟨S1152x1x1, .i32⟩
  | 49 => ⟨S_, .i32⟩
  | 50 => ⟨S1152x1x1, .i32⟩
  | 51 => ⟨S1152x1x1, .i1⟩
  | 52 => ⟨S_, .i32⟩
  | 53 => ⟨S1152x1x1, .i32⟩
  | 54 => ⟨S1152x1x1, .i32⟩
  | 55 => ⟨S1152x1x1, .i32⟩
  | 56 => ⟨S1, .i32⟩
  | 57 => ⟨S_, .i32⟩
  | 58 => ⟨S1152x1x1, .i32⟩
  | 59 => ⟨S1152x1x1, .i1⟩
  | 60 => ⟨S1x1x1, .i32⟩
  | 61 => ⟨S1152x1x1, .i32⟩
  | 62 => ⟨S1152x1x1, .i1⟩
  | 63 => ⟨S1152x1x1, .i1⟩
  | 64 => ⟨S_, .i1⟩
  | 65 => ⟨S1152x1, .i1⟩
  | 66 => ⟨S1152x1x16, .f32⟩
  | 67 => ⟨S1152x1x16, .i1⟩
  | 68 => ⟨S_, .f32⟩
  | 69 => ⟨S1152x1x16, .f32⟩
  | 70 => ⟨S1152x1x16, .f32⟩
  | 71 => ⟨S1152x16, .f32⟩
  | 72 => ⟨S1152x16, .bf16⟩
  | 73 => ⟨S1152x1x1, .i32⟩
  | 74 => ⟨S_, .i32⟩
  | 75 => ⟨S1152x1x1, .i32⟩
  | 76 => ⟨S1152x1x1, .i1⟩
  | 77 => ⟨S_, .i32⟩
  | 78 => ⟨S1152x1x1, .i32⟩
  | 79 => ⟨S1152x1x1, .i32⟩
  | 80 => ⟨S1152x1x1, .i32⟩
  | 81 => ⟨S1, .i32⟩
  | 82 => ⟨S_, .i32⟩
  | 83 => ⟨S1152x1x1, .i32⟩
  | 84 => ⟨S1152x1x1, .i1⟩
  | 85 => ⟨S1x1x1, .i32⟩
  | 86 => ⟨S1152x1x1, .i32⟩
  | 87 => ⟨S1152x1x1, .i1⟩
  | 88 => ⟨S1152x1x1, .i1⟩
  | 89 => ⟨S_, .i1⟩
  | 90 => ⟨S1152x1, .i1⟩
  | 91 => ⟨S1152x1x16, .f32⟩
  | 92 => ⟨S1152x1x16, .i1⟩
  | 93 => ⟨S_, .f32⟩
  | 94 => ⟨S1152x1x16, .f32⟩
  | 95 => ⟨S1152x1x16, .f32⟩
  | 96 => ⟨S1152x16, .f32⟩
  | 97 => ⟨S1152x16, .bf16⟩
  | 98 => ⟨S1152x1, .i32⟩
  | 99 => ⟨S1x5, .i32⟩
  | 100 => ⟨S1152x5, .i32⟩
  | 101 => ⟨S1152x5, .i32⟩
  | 102 => ⟨S1152x5, .i1⟩
  | 103 => ⟨S1152x5, .bf16⟩
  | 104 => ⟨S1152x5x1, .bf16⟩
  | 105 => ⟨S1152x1x16, .bf16⟩
  | 106 => ⟨S1152x5x16, .bf16⟩
  | 107 => ⟨S1152x5x16, .bf16⟩
  | 108 => ⟨S1152x5x16, .bf16⟩
  | 109 => ⟨S1152x5x1, .bf16⟩
  | 110 => ⟨S1152x1x16, .bf16⟩
  | 111 => ⟨S1152x5x16, .bf16⟩
  | 112 => ⟨S1152x5x16, .bf16⟩
  | 113 => ⟨S1152x5x16, .bf16⟩
  | 114 => ⟨S1152x14336, .f32⟩
  | 115 => ⟨S1152x14336, .f32⟩
  | 116 => ⟨S1152x14336, .f32⟩
  | 117 => ⟨S1152x14336, .f32⟩
  | 118 => ⟨S1152x14336, .bf16⟩
  | 119 => ⟨S3x384x14336, .bf16⟩
  | 120 => ⟨S5x16x14336, .f32⟩
  | 121 => ⟨S5x14336x16, .f32⟩
  | 122 => ⟨S5x14336x16, .f32⟩
  | 123 => ⟨S5x14336x16, .f32⟩
  | 124 => ⟨S5x16x4096, .f32⟩
  | 125 => ⟨S5x16x4096, .f32⟩
  | 126 => ⟨S5x16x4096, .f32⟩
  | 127 => ⟨S3x384x16, .bf16⟩
  | _ => ⟨S3x384x14336, .bf16⟩

abbrev hbmTy0_1 (i : Nat) : BufTy := match i % 128 with
  | 0 => ⟨S3x384x16, .bf16⟩
  | _ => ⟨S3x384x14336, .bf16⟩

abbrev hbmTy (i : Nat) : BufTy := match i / 128 with
  | 0 => hbmTy0_0 i
  | 1 => hbmTy0_1 i
  | _ => ⟨S3x384x14336, .bf16⟩

abbrev bufTy : (tb : Table) → Fin (tcTables nBuf tb) → BufTy
  | .hbm, ⟨i, _⟩ => hbmTy i
  | _, _ => ⟨S3x384x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_c_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call2_c : Ref sig .tc := ⟨.hbm, 49, rfl⟩
abbrev main_call2_v0 : Ref sig .tc := ⟨.hbm, 50, rfl⟩
abbrev main_call2_v1 : Ref sig .tc := ⟨.hbm, 51, rfl⟩
abbrev main_call2_c_0 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_c_1 : Ref sig .tc := ⟨.hbm, 56, rfl⟩
abbrev main_call2_c_2 : Ref sig .tc := ⟨.hbm, 57, rfl⟩
abbrev main_call2_v5 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_call2_c_3 : Ref sig .tc := ⟨.hbm, 64, rfl⟩
abbrev main_call2_v11 : Ref sig .tc := ⟨.hbm, 65, rfl⟩
abbrev main_call2_v12 : Ref sig .tc := ⟨.hbm, 66, rfl⟩
abbrev main_call2_v13 : Ref sig .tc := ⟨.hbm, 67, rfl⟩
abbrev main_call2_cst : Ref sig .tc := ⟨.hbm, 68, rfl⟩
abbrev main_call2_v14 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_call3_c : Ref sig .tc := ⟨.hbm, 74, rfl⟩
abbrev main_call3_v0 : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_c_2 : Ref sig .tc := ⟨.hbm, 82, rfl⟩
abbrev main_call3_v5 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_v9 : Ref sig .tc := ⟨.hbm, 87, rfl⟩
abbrev main_call3_v10 : Ref sig .tc := ⟨.hbm, 88, rfl⟩
abbrev main_call3_c_3 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_cst : Ref sig .tc := ⟨.hbm, 93, rfl⟩
abbrev main_call3_v14 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_call4_v3 : Ref sig .tc := ⟨.hbm, 101, rfl⟩
abbrev main_call4_v4 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩

abbrev nD : Nat := 1
abbrev τ : Topo := Topo.v7x

variable {F : FTy → Type} [FloatOps F]
-- ==== Proof.Kern.Values.lean ====
/- WHAT THE KERNEL'S BODY COMPUTES, AS NAMED VALUES. One grid point handles one tile of 1024 model columns. Here are the
   values the body's stores leave, each a function of the blocks it loads: the dequantized tile of the weight, the gathered
   rows of the adapters' back-propagated gradient (plain and masked), the tile's `dx` and `da`, one step of the accumulator of
   `x · a`, and, after the last tile, `db` and the gathered rows of `x · a`. Every value is at any carrier `F`. -/
module

public import proofs.«01_k».proof.Proof.Gen.KernelIdeal.Skeleton
public import proofs.«01_k».proof.Proof.Gen.KernelIdeal.Points

@[expose] public section

set_option maxRecDepth 16384

noncomputable section

namespace Cert.KernelIdeal.Kern

open Cert.KernelIdeal Cert.KernelIdeal.Gen
open Idealize.ShloMosaic Idealize.ShloMosaic.TcCoe

variable {F : FTy → Type} [FloatOps F]

/-- The row `y₀` of a rank-2 index below 1024 lies in chunk `y₀ / 128`. -/
def chunkOf (y : S1024x4096.Idx) : ℕ := (y 0).val / 128

/-- The position of row `y₀` inside its chunk of 128 rows. -/
def inChunk (y : S1024x4096.Idx) : S128x4096.Idx := fun a => match a with
  | ⟨0, _⟩ => ⟨(y 0).val % 128, Nat.mod_lt _ (by decide)⟩
  | ⟨1, _⟩ => ⟨(y 1).val, (y 1).isLt⟩

/-- The 64 packed rows of chunk `k` (each packed row holds two rows of codes). -/
def packedRows (x3 : Vec F S512x4096 .i8) (k : ℕ) (hk : k < 8) : Vec F S64x4096 .i8 := fun z => x3 (fun a => match a with
  | ⟨0, _⟩ => ⟨64 * k + (z 0).val, by have : (z 0).val < 64 := (z 0).isLt; show _ < 512; omega⟩
  | ⟨1, _⟩ => ⟨(z 1).val, (z 1).isLt⟩)

/-- The scale row of chunk `k`. -/
def scaleRow (x4 : Vec F S8x4096 .bf16) (k : ℕ) (hk : k < 8) : Vec F S1x4096 .bf16 := fun z => x4 (fun a => match a with
  | ⟨0, _⟩ => ⟨k, hk⟩
  | ⟨1, _⟩ => ⟨(z 1).val, (z 1).isLt⟩)

theorem chunkOf_lt (y : S1024x4096.Idx) : chunkOf y < 8 := by
  have : (y 0).val < 1024 := (y 0).isLt
  unfold chunkOf; omega

/-- The dequantized tile: chunk by chunk, the unpacked codes times the chunk's scale row. -/
def wdeqOf (x3 : Vec F S512x4096 .i8) (x4 : Vec F S8x4096 .bf16) : Vec F S1024x4096 .bf16 := fun y =>
  k0_pay17 (packedRows x3 (chunkOf y) (chunkOf_lt y)) (scaleRow x4 (chunkOf y) (chunkOf_lt y)) (inChunk y)

/-- Three planes of 16 × 384 stacked. -/
def stack3 (p0 p1 p2 : Vec F S1x16x384 .bf16) : Vec F S3x16x384 .bf16 := fun y =>
  let z : S1x16x384.Idx := fun a => match a with
    | ⟨0, _⟩ => ⟨0, Nat.one_pos⟩
    | ⟨1, _⟩ => ⟨(y 1).val, (y 1).isLt⟩
    | ⟨2, _⟩ => ⟨(y 2).val, (y 2).isLt⟩
  if (y 0).val = 0 then p0 z else if (y 0).val = 1 then p1 z else p2 z

/-- The adapters' gradient rows, each token's own adapter's block (result 4 before its transpose). -/
def gOf (x0 : Vec F S1x1152 .i32) (x1 : Vec F S1152x4096 .bf16) (x6 : Vec F S80x4096 .bf16) : Vec F S3x16x384 .bf16 :=
  stack3 (k0_pay2 (k0_pay14 x0) x6 x1) (k0_pay3 (k0_pay14 x0) x6 x1) (k0_pay5 (k0_pay4 (k0_pay14 x0) x6 x1))

/-- The same rows masked to each adapter, one block of 16 rows per adapter; -/
def gtOf (x0 : Vec F S1x1152 .i32) (x1 : Vec F S1152x4096 .bf16) (x6 : Vec F S80x4096 .bf16) : Vec F S80x1152 .bf16 :=
  k0_pay7 (k0_pay14 x0) (k0_pay1 (k0_pay14 x0) x6 x1)

/-- and transposed. -/
def gmOf (x0 : Vec F S1x1152 .i32) (x1 : Vec F S1152x4096 .bf16) (x6 : Vec F S80x4096 .bf16) : Vec F S1152x80 .bf16 :=
  k0_pay15 (k0_pay8 (k0_pay14 x0) (k0_pay1 (k0_pay14 x0) x6 x1))

/-- One step of the accumulator of `a · xᵀ`. -/
def xaccStep (x2 : Vec F S1152x1024 .bf16) (x5 : Vec F S80x1024 .bf16) (xs2 : Vec F S80x1152 .f32) : Vec F S80x1152 .f32 :=
  k0_pay32 (k0_pay28 x2) x5 xs2

/-- The gathered rows of `x · a` from the full accumulator (result 5 before its transpose). -/
def xaOf (x0 : Vec F S1x1152 .i32) (xs2 : Vec F S80x1152 .f32) : Vec F S3x16x384 .bf16 :=
  stack3 (k0_pay10 (k0_pay14 x0) xs2) (k0_pay11 (k0_pay14 x0) xs2) (k0_pay12 (k0_pay14 x0) xs2)

/-- `db` from the full accumulator. -/
def dbOf (x0 : Vec F S1x1152 .i32) (x1 : Vec F S1152x4096 .bf16) (xs2 : Vec F S80x1152 .f32) : Vec F S80x4096 .f32 :=
  k0_pay33 (k0_pay14 x0) (k0_pay13 (k0_pay14 x0) xs2) x1

/-- The tile of `dx`. -/
def dxOf (x1 : Vec F S1152x4096 .bf16) (x3 : Vec F S512x4096 .i8) (x4 : Vec F S8x4096 .bf16) (x5 : Vec F S80x1024 .bf16)
    (gm : Vec F S1152x80 .bf16) : Vec F S1152x1024 .bf16 := k0_pay30 x5 x1 (wdeqOf x3 x4) gm

/-- The tile of `da`. -/
def daOf (x2 : Vec F S1152x1024 .bf16) (gt : Vec F S80x1152 .bf16) : Vec F S80x1024 .f32 := k0_pay31 (k0_pay28 x2) gt

end Cert.KernelIdeal.Kern

end
-- ==== Proof.Kern.Points.lean ====
/- THE GRID'S POINTS. The body has two conditionals: one taken at the first point only (case A), one at the last only (case C);
   between them is case B. Here are the conditions in closed form, which outputs each case leaves idle, and the staging
   buffers the body is called with at a point. -/
module

public import proofs.«01_k».proof.Proof.Kern.Values
public import proofs.«01_k».proof.Proof.Gen.KernelIdeal.Launch
public import proofs.«01_k».proof.Proof.Gen.KernelIdeal.Frame
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates. -/
abbrev cond0_0 (i : grid0.Coords) : Prop := k0_cond1 i = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, k0_cond1, e0]
    word_cmp
   : ∀ t : Fin grid0.N, cond0_0 (grid0.coords t) ↔ t.val % 14 = 0)

/-- The condition of the body's `scf.if` 1 (`k0_h2`), from the grid coordinates. -/
abbrev cond0_1 (i : grid0.Coords) : Prop := k0_cond2 i = 1#1
/-- It holds at the last point only — by arithmetic of the point. -/
theorem hcond0_1 : ∀ t : Fin cfg0.N, cond0_1 (grid0.coords t) ↔ t.val % 14 = 13 :=
  (fun t => by
    have ht : t.val < 14 := Nat.lt_of_lt_of_eq t.isLt N_0
    have e0 : (grid0.coords t 0).val = t.val / 1 % 14 := Pipeline.Grid.coords_val t 0 (by decide) rfl
    simp only [cond0_1, k0_cond2, e0]
    word_cmp
   : ∀ t : Fin grid0.N, cond0_1 (grid0.coords t) ↔ t.val % 14 = 13)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- Window 8 is never idle (an output stored at every point, under no condition). -/
theorem liveAt0_8 : ∀ t : Fin cfg0.N, cfg0.idle 8 (grid0.coords t) = false := fun _ => rfl
/-- At the points of case A the printed configuration (`Cfg.idle`) calls output 9 idle: the case stores nothing into it. -/
theorem idleAt0_9_A : ∀ t : Fin cfg0.N, cond0_0 (grid0.coords t) → ¬cond0_1 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → (cfg0.win 9).flush t = false := by decide +kernel
/-- At the points of case B the printed configuration (`Cfg.idle`) calls output 9 idle: the case stores nothing into it. -/
theorem idleAt0_9_B : ∀ t : Fin cfg0.N, ¬cond0_0 (grid0.coords t) → ¬cond0_1 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → (cfg0.win 9).flush t = false := by decide +kernel
/-- At the points of case C the printed configuration (`Cfg.idle`) calls output 9 live: the case stores into it. -/
theorem liveAt0_9_C : ∀ t : Fin cfg0.N, ¬cond0_0 (grid0.coords t) → cond0_1 (grid0.coords t) → cfg0.idle 9 (grid0.coords t) = false := by decide +kernel
/-- Whether output 10's buffer is fresh at each position: it is before the first point, which stores into it, and after the
    last, which writes it back. -/
def freshTab0_10 : ℕ → Bool
  | 0 => true
  | n + 1 => (0x2000 : ℕ).testBit n
theorem freshTab0_10_step : ∀ t : Fin cfg0.N,
    freshTab0_10 (t.val + 1) = ((cfg0.win 10).flush t || (cfg0.idle 10 (cfg0.grid.coords t) && freshTab0_10 t.val)) := by decide +kernel
theorem fresh0_10_eq (t : Fin cfg0.N) : cfg0.fresh 10 t.val = freshTab0_10 t.val :=
  Pipeline.Cfg.fresh_tab cfg0 10 freshTab0_10 rfl freshTab0_10_step t.val (Nat.le_of_lt t.isLt)
/-- At the points of case A the printed configuration (`Cfg.idle`) calls output 10 live: the case stores into it. -/
theorem liveAt0_10_A : ∀ t : Fin cfg0.N, cond0_0 (grid0.coords t) → ¬cond0_1 (grid0.coords t) → cfg0.idle 10 (grid0.coords t) = false := by decide +kernel
/-- At the points of case B the printed configuration (`Cfg.idle`) calls output 10 idle: the case stores nothing into it. -/
theorem idleAt0_10_B : ∀ t : Fin cfg0.N, ¬cond0_0 (grid0.coords t) → ¬cond0_1 (grid0.coords t) → cfg0.idle 10 (grid0.coords t) = true := by decide +kernel
/-- At the points of case B the pipeline does not write output 10's block back. -/
theorem noFlush0_10_B : ∀ t : Fin cfg0.N, ¬cond0_0 (grid0.coords t) → ¬cond0_1 (grid0.coords t) → (cfg0.win 10).flush t = false := by decide +kernel
/-- At the last point output 10 is idle, -/
theorem idleAt0_10_C : ∀ t : Fin cfg0.N, ¬cond0_0 (grid0.coords t) → cond0_1 (grid0.coords t) → cfg0.idle 10 (grid0.coords t) = true := by decide +kernel
/-- and written back. -/
theorem flush0_10_C : ∀ t : Fin cfg0.N, ¬cond0_0 (grid0.coords t) → cond0_1 (grid0.coords t) → (cfg0.win 10).flush t = true := by decide +kernel
/-- At the last point output 10's buffer still holds what the first point stored. -/
theorem notFresh0_10_C : ∀ t : Fin cfg0.N, ¬cond0_0 (grid0.coords t) → cond0_1 (grid0.coords t) → cfg0.fresh 10 t.val = false := by
  intro t; rw [fresh0_10_eq t]; revert t; decide +kernel
/-- At the points of case A the printed configuration (`Cfg.idle`) calls output 11 idle: the case stores nothing into it. -/
theorem idleAt0_11_A : ∀ t : Fin cfg0.N, cond0_0 (grid0.coords t) → ¬cond0_1 (grid0.coords t) → cfg0.idle 11 (grid0.coords t) = true := by decide +kernel
/-- At the points of case A the pipeline does not write output 11's block back. -/
theorem noFlush0_11_A : ∀ t : Fin cfg0.N, cond0_0 (grid0.coords t) → ¬cond0_1 (grid0.coords t) → (cfg0.win 11).flush t = false := by decide +kernel
/-- At the points of case B the printed configuration (`Cfg.idle`) calls output 11 idle: the case stores nothing into it. -/
theorem idleAt0_11_B : ∀ t : Fin cfg0.N, ¬cond0_0 (grid0.coords t) → ¬cond0_1 (grid0.coords t) → cfg0.idle 11 (grid0.coords t) = true := by decide +kernel
/-- At the points of case B the pipeline does not write output 11's block back. -/
theorem noFlush0_11_B : ∀ t : Fin cfg0.N, ¬cond0_0 (grid0.coords t) → ¬cond0_1 (grid0.coords t) → (cfg0.win 11).flush t = false := by decide +kernel
/-- At the points of case C the printed configuration (`Cfg.idle`) calls output 11 live: the case stores into it. -/
theorem liveAt0_11_C : ∀ t : Fin cfg0.N, ¬cond0_0 (grid0.coords t) → cond0_1 (grid0.coords t) → cfg0.idle 11 (grid0.coords t) = false := by decide +kernel

/-! ## The buffers the body is called with -/

abbrev ms0_0 (t : Fin cfg0.N) : Memref sig .tc .vmem S1x1152 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1152x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1152x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x4096 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x4096 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S80x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S80x4096 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1152x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S80x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S80x4096 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S3x16x384 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S3x16x384 .bf16 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S80x1152 .bf16 := Memref.whole cc0_scratch0
abbrev scM0_1 : Memref sig .tc .vmem S1152x80 .bf16 := Memref.whole cc0_scratch1
abbrev scM0_2 : Memref sig .tc .vmem S80x1152 .f32 := Memref.whole cc0_scratch2
abbrev scM0_3 : Memref sig .tc .vmem S1024x4096 .bf16 := Memref.whole cc0_scratch3

/-- The launch's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Kern

end
-- ==== Proof.Kern.Whole.lean ====
/- READING BACK THE BODY'S STORES. A buffer stored whole holds the payload; a buffer stored in chunks of rows, or in planes,
   holds the payload of the chunk an index lies in. -/
module

public import proofs.«01_k».proof.Proof.Kern.Values
public import Idealize.ShloMosaic.Lib.Pipeline.FrameBody
public import Idealize.ShloMosaic.Lib.WritesUnit
public import Idealize.ShloMosaic.Lib.VecWindow

@[expose] public section

set_option maxRecDepth 16384

noncomputable section

namespace Cert.KernelIdeal.Kern

open Cert.KernelIdeal Cert.KernelIdeal.Gen
open Idealize.ShloMosaic Idealize.ShloMosaic.TcCoe

variable {F : FTy → Type} [FloatOps F]
variable {sig' : RefSig} {κ : Kind} {sp : Space}

/-- Three planes stored into a buffer of 3 × 16 × 384 leave the stack of the three. -/
theorem read_planes (v : View sig' κ sp S3x16x384 .bf16) (f : v.ty.Contents (Elt F)) (p0 p1 p2 : Vec F S1x16x384 .bf16) :
    v.read (Elt F) (v.writes (Elt F) f
      [⟨Rect.unit (s := S3x16x384) ![2, 0, 0] S1x16x384.size inb_S3x16x384_S1x16x384_2_0_0, p2⟩,
       ⟨Rect.unit (s := S3x16x384) ![1, 0, 0] S1x16x384.size inb_S3x16x384_S1x16x384_1_0_0, p1⟩,
       ⟨Rect.unit (s := S3x16x384) ![0, 0, 0] S1x16x384.size inb_S3x16x384_S1x16x384_0_0_0, p0⟩]) = stack3 p0 p1 p2 := by
  funext y
  have h0 : (y 0).val < 3 := (y 0).isLt
  let z : S1x16x384.Idx := fun a => match a with
    | ⟨0, _⟩ => ⟨0, Nat.one_pos⟩
    | ⟨1, _⟩ => ⟨(y 1).val, (y 1).isLt⟩
    | ⟨2, _⟩ => ⟨(y 2).val, (y 2).isLt⟩
  have hz : ∀ k : ℕ, (y 0).val = k → ∀ a, (y a).val = (![k, 0, 0] : Fin 3 → ℕ) a + (z a).val := by
    intro k hk a
    match a with
    | ⟨0, _⟩ => show (y 0).val = k + 0; omega
    | ⟨1, _⟩ => show (y 1).val = 0 + (y 1).val; omega
    | ⟨2, _⟩ => show (y 2).val = 0 + (y 2).val; omega
  unfold stack3
  show _ = if (y 0).val = 0 then p0 z else if (y 0).val = 1 then p1 z else p2 z
  have skip : ∀ (k : ℕ) (inb) (p : Vec F S1x16x384 .bf16) (L : List (View.Piece (Elt F) S3x16x384 .bf16)), (y 0).val < k →
      v.read (Elt F) (v.writes (Elt F) f (⟨Rect.unit (s := S3x16x384) ![k, 0, 0] S1x16x384.size inb, p⟩ :: L)) y
        = v.read (Elt F) (v.writes (Elt F) f L) y := fun k inb p L hk =>
    View.read_writes_cons_unit_of_not_mem (s := S3x16x384) (off' := ![k, 0, 0]) v f inb p L y rfl 0 (.inl hk)
  have take : ∀ (k : ℕ) (inb) (p : Vec F S1x16x384 .bf16) (L : List (View.Piece (Elt F) S3x16x384 .bf16)), (y 0).val = k →
      v.read (Elt F) (v.writes (Elt F) f (⟨Rect.unit (s := S3x16x384) ![k, 0, 0] S1x16x384.size inb, p⟩ :: L)) y = p z :=
    fun k inb p L hk => View.read_writes_cons_unit_of_mem (s := S3x16x384) (off' := ![k, 0, 0]) v f inb p L y z rfl (hz k hk)
  by_cases e0 : (y 0).val = 0
  · rw [if_pos e0]
    exact (skip 2 _ _ _ (by omega)).trans ((skip 1 _ _ _ (by omega)).trans (take 0 _ _ _ e0))
  · rw [if_neg e0]
    by_cases e1 : (y 0).val = 1
    · rw [if_pos e1]
      exact (skip 2 _ _ _ (by omega)).trans (take 1 _ _ _ e1)
    · rw [if_neg e1]
      exact take 2 _ _ _ (by omega)

/-- Eight chunks of 128 rows stored into a buffer of 1024 rows leave `G`, when each chunk's payload is `G` on the chunk. -/
theorem read_chunks (v : View sig' κ sp S1024x4096 .bf16) (f : v.ty.Contents (Elt F)) (q0 q1 q2 q3 q4 q5 q6 q7 : Vec F S128x4096 .bf16)
    (G : Vec F S1024x4096 .bf16)
    (h0 : ∀ y, chunkOf y = 0 → q0 (inChunk y) = G y) (h1 : ∀ y, chunkOf y = 1 → q1 (inChunk y) = G y)
    (h2 : ∀ y, chunkOf y = 2 → q2 (inChunk y) = G y) (h3 : ∀ y, chunkOf y = 3 → q3 (inChunk y) = G y)
    (h4 : ∀ y, chunkOf y = 4 → q4 (inChunk y) = G y) (h5 : ∀ y, chunkOf y = 5 → q5 (inChunk y) = G y)
    (h6 : ∀ y, chunkOf y = 6 → q6 (inChunk y) = G y) (h7 : ∀ y, chunkOf y = 7 → q7 (inChunk y) = G y) :
    v.read (Elt F) (v.writes (Elt F) f
      [⟨Rect.unit (s := S1024x4096) ![896, 0] S128x4096.size inb_S1024x4096_S128x4096_896_0, q7⟩,
       ⟨Rect.unit (s := S1024x4096) ![768, 0] S128x4096.size inb_S1024x4096_S128x4096_768_0, q6⟩,
       ⟨Rect.unit (s := S1024x4096) ![640, 0] S128x4096.size inb_S1024x4096_S128x4096_640_0, q5⟩,
       ⟨Rect.unit (s := S1024x4096) ![512, 0] S128x4096.size inb_S1024x4096_S128x4096_512_0, q4⟩,
       ⟨Rect.unit (s := S1024x4096) ![384, 0] S128x4096.size inb_S1024x4096_S128x4096_384_0, q3⟩,
       ⟨Rect.unit (s := S1024x4096) ![256, 0] S128x4096.size inb_S1024x4096_S128x4096_256_0, q2⟩,
       ⟨Rect.unit (s := S1024x4096) ![128, 0] S128x4096.size inb_S1024x4096_S128x4096_128_0, q1⟩,
       ⟨Rect.unit (s := S1024x4096) ![0, 0] S128x4096.size inb_S1024x4096_S128x4096_0_0, q0⟩]) = G := by
  funext y
  have hy : (y 0).val < 1024 := (y 0).isLt
  have skip : ∀ (k : ℕ) (inb) (p : Vec F S128x4096 .bf16) (L : List (View.Piece (Elt F) S1024x4096 .bf16)), (y 0).val < k →
      v.read (Elt F) (v.writes (Elt F) f (⟨Rect.unit (s := S1024x4096) ![k, 0] S128x4096.size inb, p⟩ :: L)) y
        = v.read (Elt F) (v.writes (Elt F) f L) y := fun k inb p L hk =>
    View.read_writes_cons_unit_of_not_mem (s := S1024x4096) (off' := ![k, 0]) v f inb p L y rfl 0 (.inl hk)
  have take : ∀ (c k : ℕ) (inb) (p : Vec F S128x4096 .bf16) (L : List (View.Piece (Elt F) S1024x4096 .bf16)),
      k = 128 * c → chunkOf y = c →
      v.read (Elt F) (v.writes (Elt F) f (⟨Rect.unit (s := S1024x4096) ![k, 0] S128x4096.size inb, p⟩ :: L)) y = p (inChunk y) :=
    fun c k inb p L hk hc => View.read_writes_cons_unit_of_mem (s := S1024x4096) (off' := ![k, 0]) v f inb p L y (inChunk y) rfl (by
      intro a
      unfold chunkOf at hc
      match a with
      | ⟨0, _⟩ => show (y 0).val = k + (y 0).val % 128; omega
      | ⟨1, _⟩ => show (y 1).val = 0 + (y 1).val; omega)
  have hc : chunkOf y = (y 0).val / 128 := rfl
  by_cases e7 : chunkOf y = 7
  · exact (take 7 _ _ _ _ rfl e7).trans (h7 y e7)
  refine (skip 896 _ _ _ (by omega)).trans ?_
  by_cases e6 : chunkOf y = 6
  · exact (take 6 _ _ _ _ rfl e6).trans (h6 y e6)
  refine (skip 768 _ _ _ (by omega)).trans ?_
  by_cases e5 : chunkOf y = 5
  · exact (take 5 _ _ _ _ rfl e5).trans (h5 y e5)
  refine (skip 640 _ _ _ (by omega)).trans ?_
  by_cases e4 : chunkOf y = 4
  · exact (take 4 _ _ _ _ rfl e4).trans (h4 y e4)
  refine (skip 512 _ _ _ (by omega)).trans ?_
  by_cases e3 : chunkOf y = 3
  · exact (take 3 _ _ _ _ rfl e3).trans (h3 y e3)
  refine (skip 384 _ _ _ (by omega)).trans ?_
  by_cases e2 : chunkOf y = 2
  · exact (take 2 _ _ _ _ rfl e2).trans (h2 y e2)
  refine (skip 256 _ _ _ (by omega)).trans ?_
  by_cases e1 : chunkOf y = 1
  · exact (take 1 _ _ _ _ rfl e1).trans (h1 y e1)
  refine (skip 128 _ _ _ (by omega)).trans ?_
  have e0 : chunkOf y = 0 := by omega
  exact (take 0 _ _ _ _ rfl e0).trans (h0 y e0)

/-- Loads of a chunk's packed rows and scale row are the named blocks. -/
theorem ld_packed (x3 : Vec F S512x4096 .i8) (k o : ℕ) (hk : k < 8) (ho : o = 64 * k)
    (inb : ∀ a, (![o, 0] : Fin 2 → ℕ) a + S64x4096.size a ≤ S512x4096.size a) :
    View.ld x3 (Rect.unit (s := S512x4096) ![o, 0] S64x4096.size inb) = packedRows x3 k hk := by
  funext z
  refine congrArg x3 (funext fun a => Fin.ext ?_)
  match a with
  | ⟨0, _⟩ => show o + 1 * (z 0).val = 64 * k + (z 0).val; omega
  | ⟨1, _⟩ => show 0 + 1 * (z 1).val = (z 1).val; omega

theorem ld_scale (x4 : Vec F S8x4096 .bf16) (k : ℕ) (hk : k < 8)
    (inb : ∀ a, (![k, 0] : Fin 2 → ℕ) a + S1x4096.size a ≤ S8x4096.size a) :
    View.ld x4 (Rect.unit (s := S8x4096) ![k, 0] S1x4096.size inb) = scaleRow x4 k hk := by
  funext z
  refine congrArg x4 (funext fun a => Fin.ext ?_)
  match a with
  | ⟨0, _⟩ => show k + 1 * (z 0).val = k; have : (z 0).val < 1 := (z 0).isLt; omega
  | ⟨1, _⟩ => show 0 + 1 * (z 1).val = (z 1).val; omega

/-- Chunk `k` of the dequantized tile is the payload of the chunk's own rows. -/
theorem wdeqOf_chunk (x3 : Vec F S512x4096 .i8) (x4 : Vec F S8x4096 .bf16) (k : ℕ) (hk : k < 8) (y : S1024x4096.Idx) (h : chunkOf y = k) :
    k0_pay17 (packedRows x3 k hk) (scaleRow x4 k hk) (inChunk y) = wdeqOf x3 x4 y := by
  subst h; rfl

/-- The body spells a chunk's dequantization eight times, cut differently by the statements it falls between; each is the one
    function. -/
theorem pay20_eq (p : Vec F S64x4096 .i8) (s : Vec F S1x4096 .bf16) : k0_pay20 (k0_pay18 p) (k0_pay19 s) = k0_pay17 p s := rfl
theorem pay21_eq (p : Vec F S64x4096 .i8) (s : Vec F S1x4096 .bf16) : k0_pay21 p s = k0_pay17 p s := rfl
theorem pay23_eq (p : Vec F S64x4096 .i8) (s : Vec F S1x4096 .bf16) : k0_pay23 (k0_pay22 p s) = k0_pay17 p s := rfl
theorem pay24_eq (p : Vec F S64x4096 .i8) (s : Vec F S1x4096 .bf16) : k0_pay24 p s = k0_pay17 p s := rfl
theorem pay25_eq (p : Vec F S64x4096 .i8) (s : Vec F S1x4096 .bf16) : k0_pay25 p s = k0_pay17 p s := rfl
theorem pay26_eq (p : Vec F S64x4096 .i8) (s : Vec F S1x4096 .bf16) : k0_pay26 p s = k0_pay17 p s := rfl
theorem pay27_eq (p : Vec F S64x4096 .i8) (s : Vec F S1x4096 .bf16) : k0_pay27 p s = k0_pay17 p s := rfl

/-- The whole tile read back after its eight stores is the dequantized tile. -/
theorem wdeq_covered (arg4 : Memref sig .tc .vmem S512x4096 .i8) (harg4 : arg4.IsWhole) (arg5 : Memref sig .tc .vmem S8x4096 .bf16)
    (harg5 : arg5.IsWhole) (x3 : Vec F S512x4096 .i8) (x4 : Vec F S8x4096 .bf16) (v : View sig' κ sp S1024x4096 .bf16) :
    v.readCov (Val := Elt F)
      [⟨Rect.unit (s := S1024x4096) ![896, 0] S128x4096.size inb_S1024x4096_S128x4096_896_0, k0_pay27 (arg4.view.readAt (Elt F) (Rect.unit (s := S512x4096) ![448, 0] S64x4096.size inb_S512x4096_S64x4096_448_0).toLoadRect (harg4.unread x3)) (arg5.view.readAt (Elt F) (Rect.unit (s := S8x4096) ![7, 0] S1x4096.size inb_S8x4096_S1x4096_7_0).toLoadRect (harg5.unread x4))⟩,
       ⟨Rect.unit (s := S1024x4096) ![768, 0] S128x4096.size inb_S1024x4096_S128x4096_768_0, k0_pay26 (arg4.view.readAt (Elt F) (Rect.unit (s := S512x4096) ![384, 0] S64x4096.size inb_S512x4096_S64x4096_384_0).toLoadRect (harg4.unread x3)) (arg5.view.readAt (Elt F) (Rect.unit (s := S8x4096) ![6, 0] S1x4096.size inb_S8x4096_S1x4096_6_0).toLoadRect (harg5.unread x4))⟩,
       ⟨Rect.unit (s := S1024x4096) ![640, 0] S128x4096.size inb_S1024x4096_S128x4096_640_0, k0_pay25 (arg4.view.readAt (Elt F) (Rect.unit (s := S512x4096) ![320, 0] S64x4096.size inb_S512x4096_S64x4096_320_0).toLoadRect (harg4.unread x3)) (arg5.view.readAt (Elt F) (Rect.unit (s := S8x4096) ![5, 0] S1x4096.size inb_S8x4096_S1x4096_5_0).toLoadRect (harg5.unread x4))⟩,
       ⟨Rect.unit (s := S1024x4096) ![512, 0] S128x4096.size inb_S1024x4096_S128x4096_512_0, k0_pay24 (arg4.view.readAt (Elt F) (Rect.unit (s := S512x4096) ![256, 0] S64x4096.size inb_S512x4096_S64x4096_256_0).toLoadRect (harg4.unread x3)) (arg5.view.readAt (Elt F) (Rect.unit (s := S8x4096) ![4, 0] S1x4096.size inb_S8x4096_S1x4096_4_0).toLoadRect (harg5.unread x4))⟩,
       ⟨Rect.unit (s := S1024x4096) ![384, 0] S128x4096.size inb_S1024x4096_S128x4096_384_0, k0_pay23 (k0_pay22 (arg4.view.readAt (Elt F) (Rect.unit (s := S512x4096) ![192, 0] S64x4096.size inb_S512x4096_S64x4096_192_0).toLoadRect (harg4.unread x3)) (arg5.view.readAt (Elt F) (Rect.unit (s := S8x4096) ![3, 0] S1x4096.size inb_S8x4096_S1x4096_3_0).toLoadRect (harg5.unread x4)))⟩,
       ⟨Rect.unit (s := S1024x4096) ![256, 0] S128x4096.size inb_S1024x4096_S128x4096_256_0, k0_pay21 (arg4.view.readAt (Elt F) (Rect.unit (s := S512x4096) ![128, 0] S64x4096.size inb_S512x4096_S64x4096_128_0).toLoadRect (harg4.unread x3)) (arg5.view.readAt (Elt F) (Rect.unit (s := S8x4096) ![2, 0] S1x4096.size inb_S8x4096_S1x4096_2_0).toLoadRect (harg5.unread x4))⟩,
       ⟨Rect.unit (s := S1024x4096) ![128, 0] S128x4096.size inb_S1024x4096_S128x4096_128_0, k0_pay20 (k0_pay18 (arg4.view.readAt (Elt F) (Rect.unit (s := S512x4096) ![64, 0] S64x4096.size inb_S512x4096_S64x4096_64_0).toLoadRect (harg4.unread x3))) (k0_pay19 (arg5.view.readAt (Elt F) (Rect.unit (s := S8x4096) ![1, 0] S1x4096.size inb_S8x4096_S1x4096_1_0).toLoadRect (harg5.unread x4)))⟩,
       ⟨Rect.unit (s := S1024x4096) ![0, 0] S128x4096.size inb_S1024x4096_S128x4096_0_0, k0_pay17 (arg4.view.readAt (Elt F) (Rect.unit (s := S512x4096) ![0, 0] S64x4096.size inb_S512x4096_S64x4096_0_0).toLoadRect (harg4.unread x3)) (arg5.view.readAt (Elt F) (Rect.unit (s := S8x4096) ![0, 0] S1x4096.size inb_S8x4096_S1x4096_0_0).toLoadRect (harg5.unread x4))⟩]
      (Rect.unit (s := S1024x4096) ![0, 0] S1024x4096.size inb_S1024x4096_S1024x4096_0_0).toLoadRect = wdeqOf x3 x4 := by
  simp only [View.readAt_eq_ld, harg4.read_unread, harg5.read_unread]
  refine (View.readAt_full v (v.writes (Elt F) v.junk _) inb_S1024x4096_S1024x4096_0_0).trans ?_
  refine read_chunks v v.junk _ _ _ _ _ _ _ _ (wdeqOf x3 x4) ?_ ?_ ?_ ?_ ?_ ?_ ?_ ?_
  · intro y hy; rw [ld_packed x3 0 0 (by decide) rfl, ld_scale x4 0 (by decide)]; exact wdeqOf_chunk x3 x4 0 _ y hy
  · intro y hy; rw [pay20_eq, ld_packed x3 1 64 (by decide) rfl, ld_scale x4 1 (by decide)]; exact wdeqOf_chunk x3 x4 1 _ y hy
  · intro y hy; rw [pay21_eq, ld_packed x3 2 128 (by decide) rfl, ld_scale x4 2 (by decide)]; exact wdeqOf_chunk x3 x4 2 _ y hy
  · intro y hy; rw [pay23_eq, ld_packed x3 3 192 (by decide) rfl, ld_scale x4 3 (by decide)]; exact wdeqOf_chunk x3 x4 3 _ y hy
  · intro y hy; rw [pay24_eq, ld_packed x3 4 256 (by decide) rfl, ld_scale x4 4 (by decide)]; exact wdeqOf_chunk x3 x4 4 _ y hy
  · intro y hy; rw [pay25_eq, ld_packed x3 5 320 (by decide) rfl, ld_scale x4 5 (by decide)]; exact wdeqOf_chunk x3 x4 5 _ y hy
  · intro y hy; rw [pay26_eq, ld_packed x3 6 384 (by decide) rfl, ld_scale x4 6 (by decide)]; exact wdeqOf_chunk x3 x4 6 _ y hy
  · intro y hy; rw [pay27_eq, ld_packed x3 7 448 (by decide) rfl, ld_scale x4 7 (by decide)]; exact wdeqOf_chunk x3 x4 7 _ y hy

end Cert.KernelIdeal.Kern

end
-- ==== Proof.Kern.RunA.lean ====
/- THE BODY AT THE FIRST POINT: it also computes the gradient rows and clears the accumulator. -/
module

public import proofs.«01_k».proof.Proof.Kern.Points
public import proofs.«01_k».proof.Proof.Kern.Whole

@[expose] public section

set_option maxRecDepth 16384

noncomputable section

namespace Cert.KernelIdeal.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The body's triple, every buffer's contents afterwards by name. -/
theorem run_A (c : Dev nD) (i : grid0.Coords) (arg1 : Memref sig .tc .vmem S1x1152 .i32) (harg1 : arg1.IsWhole) (arg2 : Memref sig .tc .vmem S1152x4096 .bf16) (harg2 : arg2.IsWhole) (arg3 : Memref sig .tc .vmem S1152x1024 .bf16) (harg3 : arg3.IsWhole) (arg4 : Memref sig .tc .vmem S512x4096 .i8) (harg4 : arg4.IsWhole) (arg5 : Memref sig .tc .vmem S8x4096 .bf16) (harg5 : arg5.IsWhole) (arg6 : Memref sig .tc .vmem S80x1024 .bf16) (harg6 : arg6.IsWhole) (arg7 : Memref sig .tc .vmem S80x4096 .bf16) (harg7 : arg7.IsWhole) (arg8 : Memref sig .tc .vmem S1152x1024 .bf16) (harg8 : arg8.IsWhole) (arg9 : Memref sig .tc .vmem S80x1024 .f32) (harg9 : arg9.IsWhole) (arg10 : Memref sig .tc .vmem S80x4096 .f32) (harg10 : arg10.IsWhole) (arg11 : Memref sig .tc .vmem S3x16x384 .bf16) (harg11 : arg11.IsWhole) (arg12 : Memref sig .tc .vmem S3x16x384 .bf16) (harg12 : arg12.IsWhole) (arg13 : Memref sig .tc .vmem S80x1152 .bf16) (harg13 : arg13.IsWhole) (arg14 : Memref sig .tc .vmem S1152x80 .bf16) (harg14 : arg14.IsWhole) (arg15 : Memref sig .tc .vmem S80x1152 .f32) (harg15 : arg15.IsWhole) (arg16 : Memref sig .tc .vmem S1024x4096 .bf16) (harg16 : arg16.IsWhole)
    (hc0 : cond0_0 i) (hc1 : ¬cond0_1 i)
    (x0 : Vec F S1x1152 .i32) (x1 : Vec F S1152x4096 .bf16) (x2 : Vec F S1152x1024 .bf16) (x3 : Vec F S512x4096 .i8) (x4 : Vec F S8x4096 .bf16) (x5 : Vec F S80x1024 .bf16) (x6 : Vec F S80x4096 .bf16) (xo9 : Vec F S80x4096 .f32) (xo11 : Vec F S3x16x384 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xo9 ∗ (∃ d, owns (c : Thread nD τ) arg11 fullShare d) ∗ owns (c : Thread nD τ) arg12 fullShare xo11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (dxOf x1 x3 x4 x5 (gmOf x0 x1 x6)) ∗ owns (c : Thread nD τ) arg9 fullShare (daOf x2 (gtOf x0 x1 x6)) ∗ owns (c : Thread nD τ) arg10 fullShare xo9 ∗ owns (c : Thread nD τ) arg11 fullShare (gOf x0 x1 x6) ∗ owns (c : Thread nD τ) arg12 fullShare xo11 ∗ owns (c : Thread nD τ) arg13 fullShare (gtOf x0 x1 x6) ∗ owns (c : Thread nD τ) arg14 fullShare (gmOf x0 x1 x6) ∗ owns (c : Thread nD τ) arg15 fullShare (xaccStep x2 x5 k0_pay16) ∗ (∃ d, owns (c : Thread nD τ) arg16 fullShare d)) -∗ K ⟨⟩))
      ⊢ wp frame (wpE (defs₀ (F := F)) Variants.none c none) E (cc0_qlora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_qlora_bwd_eq_skeleton]; unfold cc0_qlora_bwd_skel
  simp only [k0_part8_eq_skeleton, k0_part4_eq_skeleton, k0_part5_eq_skeleton, k0_part6_eq_skeleton, k0_part7_eq_skeleton, k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%d11, %f11, -, H11⟩, ⟨%f12, %hf12, H12⟩, ⟨%d13, %f13, -, H13⟩, ⟨%d14, %f14, -, H14⟩, ⟨%d15, %f15, -, H15⟩, ⟨%d16, %f16, -, H16⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg10.eq_unread hf10; obtain rfl := harg12.eq_unread hf12
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    sl_unfold_words; unfold dxOf gmOf
    refine (View.read_writes_full _ _ _ _ _).trans ?_
    rw [wdeq_covered]
    (repeat first | rw [View.readCov_full] | rw [View.readAt_full])
    try simp only [harg1.read_unread, harg2.read_unread, harg3.read_unread, harg4.read_unread, harg5.read_unread, harg6.read_unread, harg7.read_unread, harg10.read_unread, harg12.read_unread]
  isplitl [H9]
  · iexists _; isplitr; swap; · iexact H9
    ipureintro
    sl_unfold_words; unfold daOf gtOf
    refine (View.read_writes_full _ _ _ _ _).trans ?_
    (repeat first | rw [View.readCov_full] | rw [View.readAt_full])
    try simp only [harg1.read_unread, harg2.read_unread, harg3.read_unread, harg4.read_unread, harg5.read_unread, harg6.read_unread, harg7.read_unread, harg10.read_unread, harg12.read_unread]
  isplitl [H10]
  · iexists _; isplitr; · ipureintro; exact harg10.read_unread _
    iexact H10
  isplitl [H11]
  · iexists _; isplitr; swap; · iexact H11
    ipureintro
    sl_unfold_words; unfold gOf
    refine (read_planes _ _ _ _ _).trans ?_
    (repeat first | rw [View.readCov_full] | rw [View.readAt_full])
    try simp only [harg1.read_unread, harg2.read_unread, harg3.read_unread, harg4.read_unread, harg5.read_unread, harg6.read_unread, harg7.read_unread, harg10.read_unread, harg12.read_unread]
  isplitl [H12]
  · iexists _; isplitr; · ipureintro; exact harg12.read_unread _
    iexact H12
  isplitl [H13]
  · iexists _; isplitr; swap; · iexact H13
    ipureintro
    sl_unfold_words; unfold gtOf
    refine (View.read_writes_full _ _ _ _ _).trans ?_
    (repeat first | rw [View.readCov_full] | rw [View.readAt_full])
    try simp only [harg1.read_unread, harg2.read_unread, harg3.read_unread, harg4.read_unread, harg5.read_unread, harg6.read_unread, harg7.read_unread, harg10.read_unread, harg12.read_unread]
  isplitl [H14]
  · iexists _; isplitr; swap; · iexact H14
    ipureintro
    sl_unfold_words; unfold gmOf
    refine (View.read_writes_full _ _ _ _ _).trans ?_
    (repeat first | rw [View.readCov_full] | rw [View.readAt_full])
    try simp only [harg1.read_unread, harg2.read_unread, harg3.read_unread, harg4.read_unread, harg5.read_unread, harg6.read_unread, harg7.read_unread, harg10.read_unread, harg12.read_unread]
  isplitl [H15]
  · iexists _; isplitr; swap; · iexact H15
    ipureintro
    sl_unfold_words; unfold xaccStep
    refine (View.read_writes_full _ _ _ _ _).trans ?_
    (repeat first | rw [View.readCov_full] | rw [View.readAt_full])
    try simp only [harg1.read_unread, harg2.read_unread, harg3.read_unread, harg4.read_unread, harg5.read_unread, harg6.read_unread, harg7.read_unread, harg10.read_unread, harg12.read_unread]
  iexists _; iexists _; isplitr; swap; · iexact H16
  ipureintro; rfl

end Cert.KernelIdeal.Kern

end
-- ==== Proof.Kern.RunB.lean ====
/- THE BODY BETWEEN THE FIRST AND THE LAST POINT. -/
module

public import proofs.«01_k».proof.Proof.Kern.Points
public import proofs.«01_k».proof.Proof.Kern.Whole

@[expose] public section

set_option maxRecDepth 16384

noncomputable section

namespace Cert.KernelIdeal.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The body's triple, every buffer's contents afterwards by name. -/
theorem run_B (c : Dev nD) (i : grid0.Coords) (arg1 : Memref sig .tc .vmem S1x1152 .i32) (harg1 : arg1.IsWhole) (arg2 : Memref sig .tc .vmem S1152x4096 .bf16) (harg2 : arg2.IsWhole) (arg3 : Memref sig .tc .vmem S1152x1024 .bf16) (harg3 : arg3.IsWhole) (arg4 : Memref sig .tc .vmem S512x4096 .i8) (harg4 : arg4.IsWhole) (arg5 : Memref sig .tc .vmem S8x4096 .bf16) (harg5 : arg5.IsWhole) (arg6 : Memref sig .tc .vmem S80x1024 .bf16) (harg6 : arg6.IsWhole) (arg7 : Memref sig .tc .vmem S80x4096 .bf16) (harg7 : arg7.IsWhole) (arg8 : Memref sig .tc .vmem S1152x1024 .bf16) (harg8 : arg8.IsWhole) (arg9 : Memref sig .tc .vmem S80x1024 .f32) (harg9 : arg9.IsWhole) (arg10 : Memref sig .tc .vmem S80x4096 .f32) (harg10 : arg10.IsWhole) (arg11 : Memref sig .tc .vmem S3x16x384 .bf16) (harg11 : arg11.IsWhole) (arg12 : Memref sig .tc .vmem S3x16x384 .bf16) (harg12 : arg12.IsWhole) (arg13 : Memref sig .tc .vmem S80x1152 .bf16) (harg13 : arg13.IsWhole) (arg14 : Memref sig .tc .vmem S1152x80 .bf16) (harg14 : arg14.IsWhole) (arg15 : Memref sig .tc .vmem S80x1152 .f32) (harg15 : arg15.IsWhole) (arg16 : Memref sig .tc .vmem S1024x4096 .bf16) (harg16 : arg16.IsWhole)
    (hc0 : ¬cond0_0 i) (hc1 : ¬cond0_1 i)
    (x0 : Vec F S1x1152 .i32) (x1 : Vec F S1152x4096 .bf16) (x2 : Vec F S1152x1024 .bf16) (x3 : Vec F S512x4096 .i8) (x4 : Vec F S8x4096 .bf16) (x5 : Vec F S80x1024 .bf16) (x6 : Vec F S80x4096 .bf16) (xo9 : Vec F S80x4096 .f32) (xo10 : Vec F S3x16x384 .bf16) (xo11 : Vec F S3x16x384 .bf16) (xs0 : Vec F S80x1152 .bf16) (xs1 : Vec F S1152x80 .bf16) (xs2 : Vec F S80x1152 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xo9 ∗ owns (c : Thread nD τ) arg11 fullShare xo10 ∗ owns (c : Thread nD τ) arg12 fullShare xo11 ∗ owns (c : Thread nD τ) arg13 fullShare xs0 ∗ owns (c : Thread nD τ) arg14 fullShare xs1 ∗ owns (c : Thread nD τ) arg15 fullShare xs2 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (dxOf x1 x3 x4 x5 xs1) ∗ owns (c : Thread nD τ) arg9 fullShare (daOf x2 xs0) ∗ owns (c : Thread nD τ) arg10 fullShare xo9 ∗ owns (c : Thread nD τ) arg11 fullShare xo10 ∗ owns (c : Thread nD τ) arg12 fullShare xo11 ∗ owns (c : Thread nD τ) arg13 fullShare xs0 ∗ owns (c : Thread nD τ) arg14 fullShare xs1 ∗ owns (c : Thread nD τ) arg15 fullShare (xaccStep x2 x5 xs2) ∗ (∃ d, owns (c : Thread nD τ) arg16 fullShare d)) -∗ K ⟨⟩))
      ⊢ wp frame (wpE (defs₀ (F := F)) Variants.none c none) E (cc0_qlora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_qlora_bwd_eq_skeleton]; unfold cc0_qlora_bwd_skel
  simp only [k0_part8_eq_skeleton, k0_part4_eq_skeleton, k0_part5_eq_skeleton, k0_part6_eq_skeleton, k0_part7_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    sl_unfold_words; unfold dxOf
    refine (View.read_writes_full _ _ _ _ _).trans ?_
    rw [wdeq_covered]
    (repeat first | rw [View.readCov_full] | rw [View.readAt_full])
    try simp only [harg1.read_unread, harg2.read_unread, harg3.read_unread, harg4.read_unread, harg5.read_unread, harg6.read_unread, harg7.read_unread, harg10.read_unread, harg11.read_unread, harg12.read_unread, harg13.read_unread, harg14.read_unread, harg15.read_unread]
  isplitl [H9]
  · iexists _; isplitr; swap; · iexact H9
    ipureintro
    sl_unfold_words; unfold daOf
    refine (View.read_writes_full _ _ _ _ _).trans ?_
    (repeat first | rw [View.readCov_full] | rw [View.readAt_full])
    try simp only [harg1.read_unread, harg2.read_unread, harg3.read_unread, harg4.read_unread, harg5.read_unread, harg6.read_unread, harg7.read_unread, harg10.read_unread, harg11.read_unread, harg12.read_unread, harg13.read_unread, harg14.read_unread, harg15.read_unread]
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; swap; · iexact H15
    ipureintro
    sl_unfold_words; unfold xaccStep
    refine (View.read_writes_full _ _ _ _ _).trans ?_
    (repeat first | rw [View.readCov_full] | rw [View.readAt_full])
    try simp only [harg1.read_unread, harg2.read_unread, harg3.read_unread, harg4.read_unread, harg5.read_unread, harg6.read_unread, harg7.read_unread, harg10.read_unread, harg11.read_unread, harg12.read_unread, harg13.read_unread, harg14.read_unread, harg15.read_unread]
  iexists _; iexists _; isplitr; swap; · iexact H16
  ipureintro; rfl

end Cert.KernelIdeal.Kern

end
-- ==== Proof.Kern.RunC.lean ====
/- THE BODY AT THE LAST POINT: it also reads the accumulator out. -/
module

public import proofs.«01_k».proof.Proof.Kern.Points
public import proofs.«01_k».proof.Proof.Kern.Whole

@[expose] public section

set_option maxRecDepth 16384

noncomputable section

namespace Cert.KernelIdeal.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The body's triple, every buffer's contents afterwards by name. -/
theorem run_C (c : Dev nD) (i : grid0.Coords) (arg1 : Memref sig .tc .vmem S1x1152 .i32) (harg1 : arg1.IsWhole) (arg2 : Memref sig .tc .vmem S1152x4096 .bf16) (harg2 : arg2.IsWhole) (arg3 : Memref sig .tc .vmem S1152x1024 .bf16) (harg3 : arg3.IsWhole) (arg4 : Memref sig .tc .vmem S512x4096 .i8) (harg4 : arg4.IsWhole) (arg5 : Memref sig .tc .vmem S8x4096 .bf16) (harg5 : arg5.IsWhole) (arg6 : Memref sig .tc .vmem S80x1024 .bf16) (harg6 : arg6.IsWhole) (arg7 : Memref sig .tc .vmem S80x4096 .bf16) (harg7 : arg7.IsWhole) (arg8 : Memref sig .tc .vmem S1152x1024 .bf16) (harg8 : arg8.IsWhole) (arg9 : Memref sig .tc .vmem S80x1024 .f32) (harg9 : arg9.IsWhole) (arg10 : Memref sig .tc .vmem S80x4096 .f32) (harg10 : arg10.IsWhole) (arg11 : Memref sig .tc .vmem S3x16x384 .bf16) (harg11 : arg11.IsWhole) (arg12 : Memref sig .tc .vmem S3x16x384 .bf16) (harg12 : arg12.IsWhole) (arg13 : Memref sig .tc .vmem S80x1152 .bf16) (harg13 : arg13.IsWhole) (arg14 : Memref sig .tc .vmem S1152x80 .bf16) (harg14 : arg14.IsWhole) (arg15 : Memref sig .tc .vmem S80x1152 .f32) (harg15 : arg15.IsWhole) (arg16 : Memref sig .tc .vmem S1024x4096 .bf16) (harg16 : arg16.IsWhole)
    (hc0 : ¬cond0_0 i) (hc1 : cond0_1 i)
    (x0 : Vec F S1x1152 .i32) (x1 : Vec F S1152x4096 .bf16) (x2 : Vec F S1152x1024 .bf16) (x3 : Vec F S512x4096 .i8) (x4 : Vec F S8x4096 .bf16) (x5 : Vec F S80x1024 .bf16) (x6 : Vec F S80x4096 .bf16) (xo10 : Vec F S3x16x384 .bf16) (xs0 : Vec F S80x1152 .bf16) (xs1 : Vec F S1152x80 .bf16) (xs2 : Vec F S80x1152 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xo10 ∗ (∃ d, owns (c : Thread nD τ) arg12 fullShare d) ∗ owns (c : Thread nD τ) arg13 fullShare xs0 ∗ owns (c : Thread nD τ) arg14 fullShare xs1 ∗ owns (c : Thread nD τ) arg15 fullShare xs2 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (dxOf x1 x3 x4 x5 xs1) ∗ owns (c : Thread nD τ) arg9 fullShare (daOf x2 xs0) ∗ owns (c : Thread nD τ) arg10 fullShare (dbOf x0 x1 (xaccStep x2 x5 xs2)) ∗ owns (c : Thread nD τ) arg11 fullShare xo10 ∗ owns (c : Thread nD τ) arg12 fullShare (xaOf x0 (xaccStep x2 x5 xs2)) ∗ owns (c : Thread nD τ) arg13 fullShare xs0 ∗ owns (c : Thread nD τ) arg14 fullShare xs1 ∗ owns (c : Thread nD τ) arg15 fullShare (xaccStep x2 x5 xs2) ∗ (∃ d, owns (c : Thread nD τ) arg16 fullShare d)) -∗ K ⟨⟩))
      ⊢ wp frame (wpE (defs₀ (F := F)) Variants.none c none) E (cc0_qlora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_qlora_bwd_eq_skeleton]; unfold cc0_qlora_bwd_skel
  simp only [k0_part8_eq_skeleton, k0_part4_eq_skeleton, k0_part5_eq_skeleton, k0_part6_eq_skeleton, k0_part7_eq_skeleton, k0_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%d12, %f12, -, H12⟩, ⟨%f13, %hf13, H13⟩, ⟨%f14, %hf14, H14⟩, ⟨%f15, %hf15, H15⟩, ⟨%d16, %f16, -, H16⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg11.eq_unread hf11; obtain rfl := harg13.eq_unread hf13; obtain rfl := harg14.eq_unread hf14; obtain rfl := harg15.eq_unread hf15
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    sl_unfold_words; unfold dxOf
    refine (View.read_writes_full _ _ _ _ _).trans ?_
    rw [wdeq_covered]
    (repeat first | rw [View.readCov_full] | rw [View.readAt_full])
    try simp only [harg1.read_unread, harg2.read_unread, harg3.read_unread, harg4.read_unread, harg5.read_unread, harg6.read_unread, harg7.read_unread, harg11.read_unread, harg13.read_unread, harg14.read_unread, harg15.read_unread]
  isplitl [H9]
  · iexists _; isplitr; swap; · iexact H9
    ipureintro
    sl_unfold_words; unfold daOf
    refine (View.read_writes_full _ _ _ _ _).trans ?_
    (repeat first | rw [View.readCov_full] | rw [View.readAt_full])
    try simp only [harg1.read_unread, harg2.read_unread, harg3.read_unread, harg4.read_unread, harg5.read_unread, harg6.read_unread, harg7.read_unread, harg11.read_unread, harg13.read_unread, harg14.read_unread, harg15.read_unread]
  isplitl [H10]
  · iexists _; isplitr; swap; · iexact H10
    ipureintro
    sl_unfold_words; unfold dbOf xaccStep
    refine (View.read_writes_full _ _ _ _ _).trans ?_
    (repeat first | rw [View.readCov_full] | rw [View.readAt_full])
    try simp only [harg1.read_unread, harg2.read_unread, harg3.read_unread, harg4.read_unread, harg5.read_unread, harg6.read_unread, harg7.read_unread, harg11.read_unread, harg13.read_unread, harg14.read_unread, harg15.read_unread]
  isplitl [H11]
  · iexists _; isplitr; · ipureintro; exact harg11.read_unread _
    iexact H11
  isplitl [H12]
  · iexists _; isplitr; swap; · iexact H12
    ipureintro
    sl_unfold_words; unfold xaOf xaccStep
    refine (read_planes _ _ _ _ _).trans ?_
    (repeat first | rw [View.readCov_full] | rw [View.readAt_full])
    try simp only [harg1.read_unread, harg2.read_unread, harg3.read_unread, harg4.read_unread, harg5.read_unread, harg6.read_unread, harg7.read_unread, harg11.read_unread, harg13.read_unread, harg14.read_unread, harg15.read_unread]
  isplitl [H13]
  · iexists _; isplitr; · ipureintro; exact harg13.read_unread _
    iexact H13
  isplitl [H14]
  · iexists _; isplitr; · ipureintro; exact harg14.read_unread _
    iexact H14
  isplitl [H15]
  · iexists _; isplitr; swap; · iexact H15
    ipureintro
    sl_unfold_words; unfold xaccStep
    refine (View.read_writes_full _ _ _ _ _).trans ?_
    (repeat first | rw [View.readCov_full] | rw [View.readAt_full])
    try simp only [harg1.read_unread, harg2.read_unread, harg3.read_unread, harg4.read_unread, harg5.read_unread, harg6.read_unread, harg7.read_unread, harg11.read_unread, harg13.read_unread, harg14.read_unread, harg15.read_unread]
  iexists _; iexists _; isplitr; swap; · iexact H16
  ipureintro; rfl

end Cert.KernelIdeal.Kern

end
-- ==== Proof.Kern.Frame.lean ====
/- THE RUN OF THE KERNEL. What every buffer holds after each grid point, by name: the gradient rows computed at the first
   point and kept, the accumulator after each tile, and each output's block. With the body's three triples this gives the
   body obligation, the run of the whole program, and that it leaves its arguments and the semaphores as they were. -/
module

public import proofs.«01_k».proof.Proof.Kern.RunA
public import proofs.«01_k».proof.Proof.Kern.RunB
public import proofs.«01_k».proof.Proof.Kern.RunC
public import Idealize.ShloMosaic.Lib.Claim

@[expose] public section

set_option maxRecDepth 16384

noncomputable section

namespace Cert.KernelIdeal.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What is carried between points -/

/-- The grid's first point. -/
def p0 : Fin cfg0.N := ⟨0, by rw [show cfg0.N = 14 from N_0]; decide⟩

/-- The gradient rows the first point computes: masked, masked and transposed, and each token's own. -/
def gtC (c : Dev nD) : Vec F S80x1152 .bf16 := gtOf (iblk m c 0 p0) (iblk m c 1 p0) (iblk m c 6 p0)
def gmC (c : Dev nD) : Vec F S1152x80 .bf16 := gmOf (iblk m c 0 p0) (iblk m c 1 p0) (iblk m c 6 p0)
def gC (c : Dev nD) : Vec F S3x16x384 .bf16 := gOf (iblk m c 0 p0) (iblk m c 1 p0) (iblk m c 6 p0)

/-- The accumulator after point `n`. -/
def xaccAt (c : Dev nD) : (n : ℕ) → n < cfg0.N → Vec F S80x1152 .f32
  | 0, hn => xaccStep (iblk m c 2 ⟨0, hn⟩) (iblk m c 5 ⟨0, hn⟩) k0_pay16
  | n + 1, hn => xaccStep (iblk m c 2 ⟨n + 1, hn⟩) (iblk m c 5 ⟨n + 1, hn⟩) (xaccAt c n (Nat.lt_of_succ_lt hn))

theorem xaccAt_first (c : Dev nD) (t : Fin cfg0.N) (h : t.val = 0) :
    xaccAt m c t.val t.isLt = xaccStep (iblk m c 2 t) (iblk m c 5 t) k0_pay16 := by
  obtain ⟨n, hn⟩ := t
  cases n with
  | zero => rfl
  | succ n => exact absurd h (Nat.succ_ne_zero n)

theorem xaccAt_later (c : Dev nD) (t : Fin cfg0.N) (h : t.val ≠ 0) :
    xaccAt m c t.val t.isLt = xaccStep (iblk m c 2 t) (iblk m c 5 t)
      (xaccAt m c (t.val - 1) (Nat.lt_of_le_of_lt (Nat.sub_le _ _) t.isLt)) := by
  obtain ⟨n, hn⟩ := t
  cases n with
  | zero => exact absurd rfl h
  | succ n => rfl

/-- The invariant between points: before the first, the scratch buffers at anything; afterwards the gradient rows and the
    accumulator at their values. -/
def PhiS (c : Dev nD) : (n : ℕ) → n ≤ cfg0.N → sProp 𝕄
  | 0, _ => Pipeline.ΦA spec0 c
  | n + 1, hn => iprop(iprop(owns (c : Thread nD τ) scM0_0 fullShare (gtC m c) ∗ owns (c : Thread nD τ) scM0_1 fullShare (gmC m c) ∗ owns (c : Thread nD τ) scM0_2 fullShare (xaccAt m c n hn) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (gtC m c) ∗ owns (c : Thread nD τ) scM0_1 fullShare (gmC m c) ∗ owns (c : Thread nD τ) scM0_2 fullShare (xaccAt m c n hn) ∗ (∃ d, owns (c : Thread nD τ) scM0_3 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (gtC m c) ∗ owns (c : Thread nD τ) scM0_1 fullShare (gmC m c) ∗ owns (c : Thread nD τ) scM0_2 fullShare (xaccAt m c (n - 1) (by omega)) ∗ (∃ d, owns (c : Thread nD τ) scM0_3 fullShare d)) ∗ (∃ r, prngReg c r)) := by
  cases n with
  | zero => exact absurd rfl hz
  | succ n => rfl

/-! ## The pipeline's proof data -/

/-- After the body at point `t`: each input's buffer at its block, each output's at its named value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dxOf (iblk m c 1 t) (iblk m c 3 t) (iblk m c 4 t) (iblk m c 5 t) (gmC m c)
    | ⟨8, _⟩ => daOf (iblk m c 2 t) (gtC m c)
    | ⟨9, _⟩ => dbOf (iblk m c 0 t) (iblk m c 1 t) (xaccAt m c t.val t.isLt)
    | ⟨10, _⟩ => gC m c
    | ⟨11, _⟩ => xaOf (iblk m c 0 t) (xaccAt m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = dxOf (iblk m c 1 t) (iblk m c 3 t) (iblk m c 4 t) (iblk m c 5 t) (gmC m c) := by dsimp only [dats]
theorem after0_8 (c : Dev nD) (t : Fin cfg0.N) : (dats m 0 c).after 8 t = daOf (iblk m c 2 t) (gtC m c) := by dsimp only [dats]
theorem after0_9 (c : Dev nD) (t : Fin cfg0.N) : (dats m 0 c).after 9 t = dbOf (iblk m c 0 t) (iblk m c 1 t) (xaccAt m c t.val t.isLt) := by dsimp only [dats]
theorem after0_10 (c : Dev nD) (t : Fin cfg0.N) : (dats m 0 c).after 10 t = gC m c := by dsimp only [dats]
theorem after0_11 (c : Dev nD) (t : Fin cfg0.N) : (dats m 0 c).after 11 t = xaOf (iblk m c 0 t) (xaccAt m c t.val t.isLt) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- At the last point output 10's buffer holds what the first point stored, carried through the points between. -/
theorem before0_10_C (c : Dev nD) (t : Fin cfg0.N) (h0 : ¬cond0_0 (grid0.coords t)) (h1 : cond0_1 (grid0.coords t)) (d) :
    (dats m 0 c).before 10 t d = gC m c := by
  rw [Dat.before_out_traj _ 10 rfl (fun _ _ => rfl) (fun t _ _ _ => by rw [after0_10, after0_10]) t.val t rfl d,
    if_neg (by rw [notFresh0_10_C t h0 h1]; exact Bool.false_ne_true)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- A live output's buffer is left at its named value. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- An idle output that the point writes back is also left at its named value. -/
theorem leaves_flushed (c : Dev nD) (w : Fin cfg0.W) (t : Fin cfg0.N) (h : cfg0.idle w (cfg0.grid.coords t) = true)
    (hf : (cfg0.win w).flush t = true) :
    (dats m 0 c).leavesExact w t = owns (c : Thread nD τ) ((cfg0.win w).stage (cfg0.slots t w)) fullShare ((dats m 0 c).after w t) := by
  unfold Dat.leavesExact; rw [h, hf]

set_option maxHeartbeats 4000000 in
/-- The body at any point takes what it is called with to what it must return: by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 14 := lt_of_lt_of_eq t.isLt (show cfg0.N = 14 from N_0)
  rw [PhiS_castSucc m c t]
  rw [leaves_live m c 0 t (liveAt0_0 t), after0_0]
  rw [leaves_live m c 1 t (liveAt0_1 t), after0_1]
  rw [leaves_live m c 2 t (liveAt0_2 t), after0_2]
  rw [leaves_live m c 3 t (liveAt0_3 t), after0_3]
  rw [leaves_live m c 4 t (liveAt0_4 t), after0_4]
  rw [leaves_live m c 5 t (liveAt0_5 t), after0_5]
  rw [leaves_live m c 6 t (liveAt0_6 t), after0_6]
  rw [leaves_live m c 7 t (liveAt0_7 t), after0_7]
  rw [leaves_live m c 8 t (liveAt0_8 t), after0_8]
  by_cases h0 : t.val % 14 = 0
  · have hz : t.val = 0 := by omega
    have ht : t = p0 := Fin.ext hz
    have hc0 : cond0_0 (grid0.coords t) := (hcond0_0 t).mpr h0
    have hc1 : ¬cond0_1 (grid0.coords t) := fun h => by have := (hcond0_1 t).mp h; omega
    rw [Dat.leavesExact_idle (dats m 0 c) 9 t (idleAt0_9_A t hc0 hc1) (noFlush0_9_A t hc0 hc1)]
    rw [leaves_live m c 10 t (liveAt0_10_A t hc0 hc1), after0_10]
    rw [Dat.leavesExact_idle (dats m 0 c) 11 t (idleAt0_11_A t hc0 hc1) (noFlush0_11_A t hc0 hc1)]
    rw [PhiS_zero m c _ _ hz, PhiA0_eq, xaccAt_first m c t hz]
    rw [show gC m c = gOf (iblk m c 0 t) (iblk m c 1 t) (iblk m c 6 t) from by rw [ht]; rfl, show gtC m c = gtOf (iblk m c 0 t) (iblk m c 1 t) (iblk m c 6 t) from by rw [ht]; rfl,
      show gmC m c = gmOf (iblk m c 0 t) (iblk m c 1 t) (iblk m c 6 t) from by rw [ht]; rfl]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_A c (grid0.coords t) _ _ _ _ _ _ _ _ _ _ _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [H10]; · iexists _; iexact H10
    isplitl [H11]; · iexact H11
    isplitl [HS0]; · iexact HS0
    isplitl [HS1]; · iexact HS1
    isplitl [HS2]; · iexact HS2
    isplitl [HS3]; · iexact HS3
    iintro ⟨H0, H1, H2, H3, H4, H5, H6, H7, H8, H9, H10, H11, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    iexists _; iexact H11
  · have hz : t.val ≠ 0 := by omega
    have hc0 : ¬cond0_0 (grid0.coords t) := fun h => h0 ((hcond0_0 t).mp h)
    by_cases h1 : t.val % 14 = 13
    · have hc1 : cond0_1 (grid0.coords t) := (hcond0_1 t).mpr h1
      rw [leaves_live m c 9 t (liveAt0_9_C t hc0 hc1), after0_9]
      rw [leaves_flushed m c 10 t (idleAt0_10_C t hc0 hc1) (flush0_10_C t hc0 hc1), after0_10]
      rw [leaves_live m c 11 t (liveAt0_11_C t hc0 hc1), after0_11]
      simp only [before0_10_C m c t hc0 hc1]
      rw [PhiS_pos m c _ _ hz, xaccAt_later m c t hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_C c (grid0.coords t) _ _ _ _ _ _ _ _ _ _ _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexact H10
      isplitl [H11]; · iexists _; iexact H11
      isplitl [HS0]; · iexact HS0
      isplitl [HS1]; · iexact HS1
      isplitl [HS2]; · iexact HS2
      isplitl [HS3]; · iexact HS3
      iintro ⟨H0, H1, H2, H3, H4, H5, H6, H7, H8, H9, H10, H11, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · have hc1 : ¬cond0_1 (grid0.coords t) := fun h => h1 ((hcond0_1 t).mp h)
      rw [Dat.leavesExact_idle (dats m 0 c) 9 t (idleAt0_9_B t hc0 hc1) (noFlush0_9_B t hc0 hc1)]
      rw [Dat.leavesExact_idle (dats m 0 c) 10 t (idleAt0_10_B t hc0 hc1) (noFlush0_10_B t hc0 hc1)]
      rw [Dat.leavesExact_idle (dats m 0 c) 11 t (idleAt0_11_B t hc0 hc1) (noFlush0_11_B t hc0 hc1)]
      rw [PhiS_pos m c _ _ hz, xaccAt_later m c t hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_B c (grid0.coords t) _ _ _ _ _ _ _ _ _ _ _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexact H9
      isplitl [H10]; · iexact H10
      isplitl [H11]; · iexact H11
      isplitl [HS0]; · iexact HS0
      isplitl [HS1]; · iexact HS1
      isplitl [HS2]; · iexact HS2
      isplitl [HS3]; · iexact HS3
      iintro ⟨H0, H1, H2, H3, H4, H5, H6, H7, H8, H9, H10, H11, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      iexists _; iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 14 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Kern

end
-- ==== Proof.Kern.Word.lean ====
/- THE KERNEL AND ITS IDEALIZED FORM ARE ONE TEXT, so what is proved of the second's run at any arithmetic (`Kern/Frame.lean`) holds of the
   first at the machine words. -/
module

public import proofs.«01_k».proof.Defs
public import proofs.«01_k».proof.Proof.Kern.Frame
public import proofs.«01_k».proof.Proof.Gen.Kernel

@[expose] public section

set_option maxRecDepth 16384
set_option maxHeartbeats 2000000

noncomputable section

namespace Cert.Kernel.Word

open Idealize.ShloMosaic Idealize.SL.Sem

variable {F : FTy → Type} [FloatOps F]

/-- The two bodies, label by label, -/
theorem defs₀_eq : Cert.Kernel.defs₀ (F := F) = Cert.KernelIdeal.defs₀ (F := F) := by
  unfold Cert.Kernel.defs₀ Cert.KernelIdeal.defs₀
  refine congrArg _ ?_
  funext l x
  match l, x with
  | 0, (t, s) => rfl

/-- with their pipelines, -/
theorem defs_eq : Cert.Kernel.defs (F := F) = Cert.KernelIdeal.defs (F := F) :=
  congrArg (Pipeline.defs (Cert.KernelIdeal.pcfgs (F := F))) defs₀_eq

/-- and the host's part. -/
theorem main_eq : Cert.Kernel.main (F := F) = Cert.KernelIdeal.main (F := F) := rfl

/-- A run of the idealized form at the words is a run of the kernel. -/
theorem run_eq (m : (ℓ : Loc Cert.KernelIdeal.nD Cert.KernelIdeal.τ Cert.KernelIdeal.sig) → Buf (Elt Bits) ℓ) (ρ : Dev Cert.KernelIdeal.nD → PrngReg) {d} {p} (hd : d = Cert.KernelIdeal.defs (F := Bits))
    (hp : p = Cert.KernelIdeal.main (F := Bits)) {Q}
    (h : θ_run Cert.KernelIdeal.defs (onTc (τ := Cert.KernelIdeal.τ) Cert.KernelIdeal.main) ⟨m, fun _ => 0, ρ⟩ Q) :
    θ_run d (onTc (τ := Cert.KernelIdeal.τ) p) ⟨m, fun _ => 0, ρ⟩ Q := by
  subst hd hp
  exact h

/-- THE KERNEL'S FRAME. -/
theorem frame : Cert.quiescent_Kernel :=
  fun m ρ _ => run_eq m ρ defs_eq main_eq (Cert.KernelIdeal.Kern.frame (F := Bits) m ρ)

end Cert.Kernel.Word

end
-- ==== Proof.Maths.Layer.lean ====
/- THE MATHEMATICS OF THE LAYER'S BACKWARD PASS, OVER THE EXTENDED REALS. Tokens are numbered 0 … 1151 (3 sequences of 384),
   model columns `d` 0 … 14335, output columns `n` 0 … 4095, adapters `e` 0 … 4, ranks `r` 0 … 15. Each result of the layer is
   written here once, as a function of the seven arguments; the kernel's run and the reference's run are both read as these
   functions, in other modules. -/
module

public import Idealize.ShloMosaic.PureOps.Ideal.Laws
public import Idealize.ShloMosaic.Lib.Pointwise.Sums

@[expose] public section

noncomputable section

namespace Cert.Layer

open Idealize.ShloMosaic
open scoped BigOperators

/-- The seven arguments: `x`, `dy`, the packed int4 weight, its scales, the adapters `a` and `b`, the adapter of each token. -/
structure Args where
  x : (⟨3, ![3, 384, 14336]⟩ : Shape).Idx → EReal
  dy : (⟨3, ![3, 384, 4096]⟩ : Shape).Idx → EReal
  w : (⟨2, ![7168, 4096]⟩ : Shape).Idx → BitVec 8
  s : (⟨2, ![112, 4096]⟩ : Shape).Idx → EReal
  a : (⟨3, ![5, 14336, 16]⟩ : Shape).Idx → EReal
  b : (⟨3, ![5, 16, 4096]⟩ : Shape).Idx → EReal
  ids : (⟨2, ![3, 384]⟩ : Shape).Idx → BitVec 32

/-- The sequence that token `t` lies in, -/
def seqOf (t : Fin 1152) : Fin 3 := ⟨t.val / 384, by omega⟩
/-- and its position there. -/
def posOf (t : Fin 1152) : Fin 384 := ⟨t.val % 384, by omega⟩
/-- The token at position `p` of sequence `q`. -/
def tokenAt (q : Fin 3) (p : Fin 384) : Fin 1152 := ⟨384 * q.val + p.val, by omega⟩

theorem seqOf_tokenAt (q : Fin 3) (p : Fin 384) : seqOf (tokenAt q p) = q :=
  Fin.ext (by show (384 * q.val + p.val) / 384 = q.val; omega)
theorem posOf_tokenAt (q : Fin 3) (p : Fin 384) : posOf (tokenAt q p) = p :=
  Fin.ext (by show (384 * q.val + p.val) % 384 = p.val; omega)

/-- Adapter `e`'s rank `r`, where the 5 × 16 of them are numbered in one row. -/
def rankRow (e : Fin 5) (r : Fin 16) : Fin 80 := ⟨16 * e.val + r.val, by omega⟩

/-- The adapter of one of the 80, -/
def adapterRow (k : Fin 80) : Fin 5 := ⟨k.val / 16, by omega⟩
/-- its rank, -/
def rankOf (k : Fin 80) : Fin 16 := ⟨k.val % 16, by omega⟩
/-- and back. -/
theorem rankRow_self (k : Fin 80) : rankRow (adapterRow k) (rankOf k) = k :=
  Fin.ext (by show 16 * (k.val / 16) + k.val % 16 = k.val; omega)
theorem adapterRow_rankRow (e : Fin 5) (r : Fin 16) : adapterRow (rankRow e r) = e :=
  Fin.ext (by show (16 * e.val + r.val) / 16 = e.val; omega)
theorem rankOf_rankRow (e : Fin 5) (r : Fin 16) : rankOf (rankRow e r) = r :=
  Fin.ext (by show (16 * e.val + r.val) % 16 = r.val; omega)

/-- A sum over all 80 is the sum over the adapters of the sums over the ranks. -/
theorem sum_rankRow (f : Fin 80 → EReal) : ∑ k : Fin 80, f k = ∑ e : Fin 5, ∑ r : Fin 16, f (rankRow e r) := by
  rw [Fin.sum_univ_tiles 5 16 rfl f]
  refine Finset.sum_congr rfl fun e _ => Finset.sum_congr rfl fun r _ => congrArg f (Fin.ext ?_)
  show e.val * 16 + r.val = 16 * e.val + r.val
  omega

/-- The adapter an id word names. (A word that names none counts as 0; the precondition rules those out.) -/
def adapterOf (v : BitVec 32) : Fin 5 :=
  if v = 4#32 then 4 else if v = 3#32 then 3 else if v = 2#32 then 2 else if v = 1#32 then 1 else 0

/-- The int4 code in half `p` of a packed byte: the low nibble for `p = 0`, the high one for `p = 1`. -/
def codeOf (v : BitVec 8) (p : ℕ) : BitVec 4 := v.extractLsb' (4 * p) 4

variable (A : Args)

/-- `x` at a token and a column, -/
def xAt (t : Fin 1152) (d : Fin 14336) : EReal := A.x (ix3 (seqOf t) (posOf t) d)
/-- `dy` at a token and a column, -/
def dyAt (t : Fin 1152) (n : Fin 4096) : EReal := A.dy (ix3 (seqOf t) (posOf t) n)
/-- the id word of a token. -/
def idAt (t : Fin 1152) : BitVec 32 := A.ids (ix2 (seqOf t) (posOf t))

/-- The dequantized weight: model column `d`'s code is in half `d % 2` of packed row `d / 2`, its scale row is `d / 128`. -/
def weight (d : Fin 14336) (n : Fin 4096) : EReal :=
  (((codeOf (A.w (ix2 ⟨d.val / 2, by omega⟩ n)) (d.val % 2)).toInt : ℝ) : EReal) * A.s (ix2 ⟨d.val / 128, by omega⟩ n)

/-- `dy · bᵀ` at a token, for every adapter; -/
def gAll (t : Fin 1152) (e : Fin 5) (r : Fin 16) : EReal := ∑ n : Fin 4096, dyAt A t n * A.b (ix3 e r n)
/-- for the token's own adapter (result 4). -/
def gOwn (t : Fin 1152) (r : Fin 16) : EReal := gAll A t (adapterOf (idAt A t)) r
/-- `x · a` at a token, for every adapter; -/
def xaAll (t : Fin 1152) (e : Fin 5) (r : Fin 16) : EReal := ∑ d : Fin 14336, xAt A t d * A.a (ix3 e d r)
/-- for the token's own adapter (result 5). -/
def xaOwn (t : Fin 1152) (r : Fin 16) : EReal := xaAll A t (adapterOf (idAt A t)) r

/-- A token's row kept at its own adapter, zero at the others. -/
def masked (f : Fin 1152 → Fin 16 → EReal) (t : Fin 1152) (e : Fin 5) (r : Fin 16) : EReal :=
  if idAt A t = BitVec.ofNat 32 e.val then f t r else 0

/-- Result 1: the gradient of `x`, the base weight's part and the adapters'. -/
def dx (t : Fin 1152) (d : Fin 14336) : EReal :=
  (∑ n : Fin 4096, dyAt A t n * weight A d n) + ∑ e : Fin 5, ∑ r : Fin 16, masked A (gOwn A) t e r * A.a (ix3 e d r)
/-- Result 2: the gradient of `a`. -/
def da (e : Fin 5) (d : Fin 14336) (r : Fin 16) : EReal := ∑ t : Fin 1152, masked A (gOwn A) t e r * xAt A t d
/-- Result 3: the gradient of `b`. -/
def db (e : Fin 5) (r : Fin 16) (n : Fin 4096) : EReal := ∑ t : Fin 1152, masked A (xaOwn A) t e r * dyAt A t n

/-! The five results as arrays. -/

def resDx : (⟨3, ![3, 384, 14336]⟩ : Shape).Idx → EReal := fun i => dx A (tokenAt (i 0) (i 1)) (i 2)
def resDa : (⟨3, ![5, 14336, 16]⟩ : Shape).Idx → EReal := fun i => da A (i 0) (i 1) (i 2)
def resDb : (⟨3, ![5, 16, 4096]⟩ : Shape).Idx → EReal := fun i => db A (i 0) (i 1) (i 2)
def resG : (⟨3, ![3, 384, 16]⟩ : Shape).Idx → EReal := fun i => gOwn A (tokenAt (i 0) (i 1)) (i 2)
def resXa : (⟨3, ![3, 384, 16]⟩ : Shape).Idx → EReal := fun i => xaOwn A (tokenAt (i 0) (i 1)) (i 2)

end Cert.Layer

end
-- ==== Proof.Kern.Pay.lean ====
/- THE BODY'S VALUES, READ AT AN INDEX OVER THE EXTENDED REALS. Each value that a store of the body leaves is read at one
   index: a contraction is a sum of products, the select chain over the adapters picks the token's own adapter's row, the
   masks keep that row at its own adapter only, and the unpacked word is a nibble of the packed byte. -/
module

public import proofs.«01_k».proof.Proof.Kern.Values
public import proofs.«01_k».proof.Proof.Maths.Layer
public import Idealize.ShloMosaic.Lib.Pointwise
public import Idealize.ShloMosaic.Lib.BitcastPair

@[expose] public section

set_option maxRecDepth 16384

noncomputable section

namespace Cert.KernelIdeal.Kern

open Cert.KernelIdeal Cert.KernelIdeal.Gen Cert.Layer
open Idealize.ShloMosaic Idealize.ShloMosaic.TcCoe

/-- A select on "the words are equal" is the choice. -/
theorem select_eq (v w : BitVec 32) (x y : EReal) :
    Scalar.select (IntOp.cmpi CmpIPredicate.eq v w) x y = if v = w then x else y := by
  by_cases h : v = w
  · subst h; simp [Scalar.select, IntOp.cmpi]
  · have hb : (v == w) = false := beq_false_of_ne h
    simp [Scalar.select, IntOp.cmpi, h, hb]

/-- The select chain over the adapters takes the one that the word names. -/
theorem select_chain (v : BitVec 32) (f : Fin 5 → EReal) :
    Scalar.select (IntOp.cmpi CmpIPredicate.eq v 4#32) (f 4) (Scalar.select (IntOp.cmpi CmpIPredicate.eq v 3#32) (f 3)
      (Scalar.select (IntOp.cmpi CmpIPredicate.eq v 2#32) (f 2) (Scalar.select (IntOp.cmpi CmpIPredicate.eq v 1#32) (f 1) (f 0))))
      = f (adapterOf v) := by
  rw [select_eq, select_eq, select_eq, select_eq]
  unfold adapterOf
  split_ifs <;> rfl

theorem pay9_apply (v : IVec S1x1152 32) (y : Vec Ideal S80x1152 .f32) (r : Fin 16) (t : Fin 1152) :
    k0_pay9 (F := Ideal) v y (ix2 r t) = y (ix2 (rankRow (adapterOf (v (ix2 0 t))) r) t) := by
  refine Eq.trans ?_ (select_chain (v (ix2 0 t)) fun e => y (ix2 (rankRow e r) t))
  have h0 : rankRow 0 r = ⟨r.val, by omega⟩ := Fin.ext (Nat.zero_add _)
  unfold k0_pay9
  pointwise
  rw [h0]
  rfl

theorem pay1_apply (v : IVec S1x1152 32) (b : Vec Ideal S80x4096 .bf16) (dy : Vec Ideal S1152x4096 .bf16) (r : Fin 16) (t : Fin 1152) :
    k0_pay1 (F := Ideal) v b dy (ix2 r t)
      = ∑ n : Fin 4096, b (ix2 (rankRow (adapterOf (v (ix2 0 t))) r) n) * dy (ix2 t n) := by
  refine Eq.trans ?_ (select_chain (v (ix2 0 t)) fun e => ∑ n : Fin 4096, b (ix2 (rankRow e r) n) * dy (ix2 t n))
  have h0 : rankRow 0 r = ⟨r.val, by omega⟩ := Fin.ext (Nat.zero_add _)
  unfold k0_pay1
  pointwise
  rw [h0]
  rfl

theorem pay6_apply (v : IVec S1x1152 32) (z : Vec Ideal S16x1152 .f32) (e : Fin 5) (r : Fin 16) (t : Fin 1152) :
    k0_pay6 (F := Ideal) v z (ix2 (rankRow e r) t) = if v (ix2 0 t) = BitVec.ofNat 32 e.val then z (ix2 r t) else 0 := by
  rw [← select_eq]
  have hk : (rankRow e r).val = 16 * e.val + r.val := rfl
  have hr := r.isLt
  unfold k0_pay6
  pointwise
  by_cases h0 : (rankRow e r).val < 16
  · rw [dif_pos h0]
    obtain rfl : e = 0 := Fin.ext (by show e.val = 0; omega)
    exact congrArg (fun q : Fin 16 => Scalar.select (IntOp.cmpi .eq (v (ix2 0 t)) 0#32) (z (ix2 q t)) (0 : EReal))
      (Fin.ext (a := ⟨(rankRow 0 r).val, by omega⟩) (by show (rankRow 0 r).val = r.val; omega))
  by_cases h1 : (rankRow e r).val - 16 < 16
  · rw [dif_neg h0, dif_pos h1]
    obtain rfl : e = 1 := Fin.ext (by show e.val = 1; omega)
    exact congrArg (fun q : Fin 16 => Scalar.select (IntOp.cmpi .eq (v (ix2 0 t)) 1#32) (z (ix2 q t)) (0 : EReal))
      (Fin.ext (a := ⟨(rankRow 1 r).val - 16, by omega⟩) (by show (rankRow 1 r).val - 16 = r.val; omega))
  by_cases h2 : (rankRow e r).val - 16 - 16 < 16
  · rw [dif_neg h0, dif_neg h1, dif_pos h2]
    obtain rfl : e = 2 := Fin.ext (by show e.val = 2; omega)
    exact congrArg (fun q : Fin 16 => Scalar.select (IntOp.cmpi .eq (v (ix2 0 t)) 2#32) (z (ix2 q t)) (0 : EReal))
      (Fin.ext (a := ⟨(rankRow 2 r).val - 16 - 16, by omega⟩) (by show (rankRow 2 r).val - 16 - 16 = r.val; omega))
  by_cases h3 : (rankRow e r).val - 16 - 16 - 16 < 16
  · rw [dif_neg h0, dif_neg h1, dif_neg h2, dif_pos h3]
    obtain rfl : e = 3 := Fin.ext (by show e.val = 3; omega)
    exact congrArg (fun q : Fin 16 => Scalar.select (IntOp.cmpi .eq (v (ix2 0 t)) 3#32) (z (ix2 q t)) (0 : EReal))
      (Fin.ext (a := ⟨(rankRow 3 r).val - 16 - 16 - 16, by omega⟩) (by show (rankRow 3 r).val - 16 - 16 - 16 = r.val; omega))
  · rw [dif_neg h0, dif_neg h1, dif_neg h2, dif_neg h3]
    obtain rfl : e = 4 := Fin.ext (by show e.val = 4; omega)
    exact congrArg (fun q : Fin 16 => Scalar.select (IntOp.cmpi .eq (v (ix2 0 t)) 4#32) (z (ix2 q t)) (0 : EReal))
      (Fin.ext (a := ⟨(rankRow 4 r).val - 16 - 16 - 16 - 16, by omega⟩) (by show (rankRow 4 r).val - 16 - 16 - 16 - 16 = r.val; omega))

theorem pay7_apply (v : IVec S1x1152 32) (z : Vec Ideal S16x1152 .f32) (e : Fin 5) (r : Fin 16) (t : Fin 1152) :
    k0_pay7 (F := Ideal) v z (ix2 (rankRow e r) t) = if v (ix2 0 t) = BitVec.ofNat 32 e.val then z (ix2 r t) else 0 := by
  refine Eq.trans ?_ (pay6_apply v z e r t)
  unfold k0_pay7
  pointwise

theorem pay8_apply (v : IVec S1x1152 32) (z : Vec Ideal S16x1152 .f32) (e : Fin 5) (r : Fin 16) (t : Fin 1152) :
    k0_pay15 (k0_pay8 (F := Ideal) v z) (ix2 t (rankRow e r)) = if v (ix2 0 t) = BitVec.ofNat 32 e.val then z (ix2 r t) else 0 := by
  refine Eq.trans ?_ (pay6_apply v z e r t)
  unfold k0_pay15 k0_pay8
  pointwise

theorem pay14_eq (v : IVec S1x1152 32) : k0_pay14 (F := Ideal) v = v := by
  funext j
  idx_vars j
  unfold k0_pay14
  pointwise

theorem pay30_apply (a : Vec Ideal S80x1024 .bf16) (dy : Vec Ideal S1152x4096 .bf16) (w : Vec Ideal S1024x4096 .bf16)
    (gm : Vec Ideal S1152x80 .bf16) (t : Fin 1152) (l : Fin 1024) :
    k0_pay30 (F := Ideal) a dy w gm (ix2 t l)
      = ∑ n, dy (ix2 t n) * w (ix2 l n) + ∑ k, gm (ix2 t k) * a (ix2 k l) := by
  unfold k0_pay30 k0_pay29
  pointwise

theorem pay31_apply (x : Vec Ideal S1152x1024 .bf16) (gt : Vec Ideal S80x1152 .bf16) (k : Fin 80) (l : Fin 1024) :
    k0_pay31 (F := Ideal) (k0_pay28 x) gt (ix2 k l) = ∑ t, gt (ix2 k t) * x (ix2 t l) := by
  unfold k0_pay31 k0_pay28
  pointwise

theorem pay32_apply (x : Vec Ideal S1152x1024 .bf16) (a : Vec Ideal S80x1024 .bf16) (y : Vec Ideal S80x1152 .f32) (k : Fin 80) (t : Fin 1152) :
    k0_pay32 (F := Ideal) (k0_pay28 x) a y (ix2 k t) = y (ix2 k t) + ∑ l, a (ix2 k l) * x (ix2 t l) := by
  unfold k0_pay32 k0_pay28 k0_pay29
  pointwise

/-- The last contraction's left operand is the masked rows. -/
theorem pay33_eq {F : FTy → Type} [FloatOps F] (v : IVec S1x1152 32) (y : Vec F S80x1152 .f32) (dy : Vec F S1152x4096 .bf16) :
    k0_pay33 v (k0_pay13 v y) dy
      = mulf (broadcast S80x4096 (Scalar.ofBits .f32 0x3F800000#32)) (matmul dot_S80x1152_S1152x4096_S80x4096_1_0_0_1_n_n none
          (truncf .bf16 (k0_pay6 v (k0_pay9 v y)) bitsLt_bf16_f32)
          (shapeCast S1152x4096 dy shapeCasts_S1152x4096_S1152x4096) (constant S80x4096 .f32 0x00000000#32)) := rfl

theorem pay33_apply (v : IVec S1x1152 32) (y : Vec Ideal S80x1152 .f32) (dy : Vec Ideal S1152x4096 .bf16) (k : Fin 80) (n : Fin 4096) :
    k0_pay33 (F := Ideal) v (k0_pay13 v y) dy (ix2 k n)
      = ∑ t : Fin 1152, k0_pay6 (F := Ideal) v (k0_pay9 v y) (ix2 k t) * dy (ix2 t n) := by
  rw [pay33_eq]
  pointwise

/-- The 16-bit half `p` of the word that packs a byte's two nibbles, cut to four bits, is the nibble `p`. -/
theorem word_half : ∀ (v : BitVec 8) (p : Fin 2),
    (BitVec.extractLsb' (n := 32) (16 * p.val) 16 (IntOp.ori (IntOp.andi (v.setWidth 32) 15#32) (IntOp.shli .vector (IntOp.shrsi .vector (v.setWidth 32) 4#32) 16#32))).setWidth 4
      = codeOf v p.val := by
  decide +kernel

theorem pay17_apply (x : Vec Ideal S64x4096 .i8) (s : Vec Ideal S1x4096 .bf16) (r : Fin 128) (n : Fin 4096) :
    k0_pay17 (F := Ideal) x s (ix2 r n)
      = (((codeOf (x (ix2 ⟨r.val / 2, by omega⟩ n)) (r.val % 2)).toInt : ℝ) : EReal) * s (ix2 0 n) := by
  unfold k0_pay17
  pointwise
  rw [bitcast_32_16, ← word_half (x (ix2 ⟨r.val / 2, by omega⟩ n)) ⟨r.val % 2, Nat.mod_lt _ (by decide)⟩]
  have hrow : S128x4096.row (ix2 r n) = r.val := rfl
  have hsrc : ∀ hp, bitcasts_S64x4096_w32_S128x4096_w16.srcIdx (ix2 r n) (S128x4096.row (ix2 r n) / 2) hp
      = ix2 ⟨r.val / 2, by omega⟩ n := fun hp => by
    funext a; apply Fin.ext
    match a with
    | ⟨0, _⟩ => exact Shape.Bitcasts.srcIdx_row _ _ _ _ _ rfl
    | ⟨1, _⟩ => exact Shape.Bitcasts.srcIdx_other _ _ _ _ _ (by show ¬ 1 + 2 = 2; decide)
  rw [hsrc]
  rfl

/-- The rows of the token's own adapter, column 0 of the three planes: sequence 0; -/
theorem pay2_apply (v : IVec S1x1152 32) (b : Vec Ideal S80x4096 .bf16) (dy : Vec Ideal S1152x4096 .bf16) (r : Fin 16) (p : Fin 384) :
    k0_pay2 (F := Ideal) v b dy (ix3 (0 : Fin 1) r p) = k0_pay1 v b dy (ix2 r (tokenAt 0 p)) := by
  unfold k0_pay2
  pointwise
  exact congrArg (fun q => k0_pay1 v b dy (ix2 r q)) (Fin.ext (by show p.val = 384 * 0 + p.val; omega))
/-- sequence 1; -/
theorem pay3_apply (v : IVec S1x1152 32) (b : Vec Ideal S80x4096 .bf16) (dy : Vec Ideal S1152x4096 .bf16) (r : Fin 16) (p : Fin 384) :
    k0_pay3 (F := Ideal) v b dy (ix3 (0 : Fin 1) r p) = k0_pay1 v b dy (ix2 r (tokenAt 1 p)) := by
  unfold k0_pay3
  pointwise
  exact congrArg (fun q => k0_pay1 v b dy (ix2 r q)) (Fin.ext (by show 384 + p.val = 384 * 1 + p.val; omega))
/-- sequence 2. -/
theorem pay5_apply (v : IVec S1x1152 32) (b : Vec Ideal S80x4096 .bf16) (dy : Vec Ideal S1152x4096 .bf16) (r : Fin 16) (p : Fin 384) :
    k0_pay5 (F := Ideal) (k0_pay4 v b dy) (ix3 (0 : Fin 1) r p) = k0_pay1 v b dy (ix2 r (tokenAt 2 p)) := by
  unfold k0_pay5 k0_pay4
  pointwise
  exact congrArg (fun q => k0_pay1 v b dy (ix2 r q)) (Fin.ext (by show 768 + p.val = 384 * 2 + p.val; omega))

/-- The same three planes of the accumulator's rows. -/
theorem pay10_apply (v : IVec S1x1152 32) (y : Vec Ideal S80x1152 .f32) (r : Fin 16) (p : Fin 384) :
    k0_pay10 (F := Ideal) v y (ix3 (0 : Fin 1) r p) = k0_pay9 v y (ix2 r (tokenAt 0 p)) := by
  unfold k0_pay10
  pointwise
  exact congrArg (fun q => k0_pay9 v y (ix2 r q)) (Fin.ext (by show p.val = 384 * 0 + p.val; omega))
theorem pay11_apply (v : IVec S1x1152 32) (y : Vec Ideal S80x1152 .f32) (r : Fin 16) (p : Fin 384) :
    k0_pay11 (F := Ideal) v y (ix3 (0 : Fin 1) r p) = k0_pay9 v y (ix2 r (tokenAt 1 p)) := by
  unfold k0_pay11
  pointwise
  exact congrArg (fun q => k0_pay9 v y (ix2 r q)) (Fin.ext (by show 384 + p.val = 384 * 1 + p.val; omega))
theorem pay12_apply (v : IVec S1x1152 32) (y : Vec Ideal S80x1152 .f32) (r : Fin 16) (p : Fin 384) :
    k0_pay12 (F := Ideal) v y (ix3 (0 : Fin 1) r p) = k0_pay9 v y (ix2 r (tokenAt 2 p)) := by
  unfold k0_pay12
  pointwise
  exact congrArg (fun q => k0_pay9 v y (ix2 r q)) (Fin.ext (by show 768 + p.val = 384 * 2 + p.val; omega))

end Cert.KernelIdeal.Kern

end
-- ==== Proof.Maths.Reshape.lean ====
/- THE RESHAPES OF THE LAYER'S ARRAYS, READ AT AN INDEX: tokens numbered in one row and back, adapters and ranks numbered in one
   row and back. -/
module

public import proofs.«01_k».proof.Proof.Maths.Layer
public import Idealize.ShloMosaic.Lib.Pointwise

@[expose] public section

namespace Cert.Layer

open Idealize.ShloMosaic

/-- Tokens numbered in one row: a `3 × 384 × n` array reshaped to `1152 × n`; -/
theorem flat_rows {α : Type} {n : ℕ} (x : (⟨3, ![3, 384, n]⟩ : Shape).Idx → α) (h) (t : Fin 1152) (d : Fin n) :
    shapeCast (⟨2, ![1152, n]⟩ : Shape) x h (ix2 t d) = x (ix3 (seqOf t) (posOf t) d) := by
  refine shapeCast_apply x h _ _ ?_
  rw [Shape.rowMajor_val_three, Shape.rowMajor_val_two]
  show (t.val / 384 * 384 + t.val % 384) * n + d.val = t.val * n + d.val
  rw [Nat.div_add_mod' t.val 384]

/-- a `3 × 384` array reshaped to one row of 1152. -/
theorem flat_row {α : Type} (x : (⟨2, ![3, 384]⟩ : Shape).Idx → α) (h) (t : Fin 1152) :
    shapeCast (⟨2, ![1, 1152]⟩ : Shape) x h (ix2 (0 : Fin 1) t) = x (ix2 (seqOf t) (posOf t)) := by
  refine shapeCast_apply x h _ _ ?_
  rw [Shape.rowMajor_val_two, Shape.rowMajor_val_two]
  show t.val / 384 * 384 + t.val % 384 = 0 * 1152 + t.val
  omega

/-- and a `5 × 16 × n` array reshaped to `80 × n`. -/
theorem flat_ranks {α : Type} {n : ℕ} (x : (⟨3, ![5, 16, n]⟩ : Shape).Idx → α) (h) (e : Fin 5) (r : Fin 16) (d : Fin n) :
    shapeCast (⟨2, ![80, n]⟩ : Shape) x h (ix2 (rankRow e r) d) = x (ix3 e r d) := by
  refine shapeCast_apply x h _ _ ?_
  rw [Shape.rowMajor_val_three, Shape.rowMajor_val_two]
  show (e.val * 16 + r.val) * n + d.val = (16 * e.val + r.val) * n + d.val
  rw [Nat.mul_comm e.val 16]

/-- Rows of 1152 reshaped to `3 × 384`. -/
theorem unflat_rows {α : Type} {n : ℕ} (x : (⟨2, ![1152, n]⟩ : Shape).Idx → α) (h) (q : Fin 3) (p : Fin 384) (d : Fin n) :
    shapeCast (⟨3, ![3, 384, n]⟩ : Shape) x h (ix3 q p d) = x (ix2 (tokenAt q p) d) := by
  refine shapeCast_apply x h _ _ ?_
  rw [Shape.rowMajor_val_three, Shape.rowMajor_val_two]
  show (384 * q.val + p.val) * n + d.val = (q.val * 384 + p.val) * n + d.val
  rw [Nat.mul_comm 384]

/-- Rows of 80 reshaped to `5 × 16`. -/
theorem rank_planes {α : Type} {n : ℕ} (x : (⟨2, ![80, n]⟩ : Shape).Idx → α) (h) (e : Fin 5) (r : Fin 16) (d : Fin n) :
    shapeCast (⟨3, ![5, 16, n]⟩ : Shape) x h (ix3 e r d) = x (ix2 (rankRow e r) d) := by
  refine shapeCast_apply x h _ _ ?_
  rw [Shape.rowMajor_val_three, Shape.rowMajor_val_two]
  show (16 * e.val + r.val) * n + d.val = (e.val * 16 + r.val) * n + d.val
  rw [Nat.mul_comm 16]

/-- A `3 × 384` array reshaped to 1152. -/
theorem flat_list {α : Type} (x : (⟨2, ![3, 384]⟩ : Shape).Idx → α) (h) (t : Fin 1152) :
    shapeCast (⟨1, ![1152]⟩ : Shape) x h (ix1 t) = x (ix2 (seqOf t) (posOf t)) := by
  refine shapeCast_apply x h _ _ ?_
  rw [Shape.rowMajor_val_two, Shape.rowMajor_val_one]
  show t.val / 384 * 384 + t.val % 384 = t.val
  omega

end Cert.Layer
-- ==== Proof.Kern.Blocks.lean ====
/- THE KERNEL'S INPUT BLOCKS, IN TERMS OF THE ARGUMENTS. The host reshapes and transposes the arguments before the region; a
   grid point's block of a reshaped array is read here at an index as one element of an argument. -/
module

public import proofs.«01_k».proof.Proof.Kern.Pay
public import proofs.«01_k».proof.Proof.Maths.Reshape
public import proofs.«01_k».proof.Proof.Kern.Frame
public import Idealize.ShloMosaic.Lib.Pipeline.ValueKit.Geometry

@[expose] public section

set_option maxRecDepth 16384

noncomputable section

namespace Cert.KernelIdeal.Kern

open Cert.KernelIdeal Cert.KernelIdeal.Gen Cert.Layer
open Idealize.ShloMosaic Idealize.ShloMosaic.TcCoe Idealize.ShloMosaic.Tactic

variable (m : (ℓ : Loc nD τ sig) → Buf (Elt Ideal) ℓ)

/-- The arguments of core `c`. -/
def argsOf (c : Dev nD) : Args where
  x := m ((c : Thread nD τ).loc main_arg0)
  dy := m ((c : Thread nD τ).loc main_arg1)
  w := m ((c : Thread nD τ).loc main_arg2)
  s := m ((c : Thread nD τ).loc main_arg3)
  a := m ((c : Thread nD τ).loc main_arg4)
  b := m ((c : Thread nD τ).loc main_arg5)
  ids := m ((c : Thread nD τ).loc main_arg6)

/-! ## The reshaped arrays -/

/-- The host's operations before the region, one result each. -/
theorem host0_v0 (W : Valuation τ sig (Elt Ideal)) : StableHlo.after hostOps0 W (Proc.devRef .tc main_v0)
    = shapeCast S1152x14336 (W (Proc.devRef .tc main_arg0)) shapeCasts_S3x384x14336_S1152x14336 := by
  after_results
  rfl
theorem host0_v1 (W : Valuation τ sig (Elt Ideal)) : StableHlo.after hostOps0 W (Proc.devRef .tc main_v1)
    = shapeCast S1152x4096 (W (Proc.devRef .tc main_arg1)) shapeCasts_S3x384x4096_S1152x4096 := by
  after_results
  rfl
theorem host0_v3 (W : Valuation τ sig (Elt Ideal)) : StableHlo.after hostOps0 W (Proc.devRef .tc main_v3)
    = shapeCast S80x14336 (transpose S5x16x14336 [0, 2, 1] (W (Proc.devRef .tc main_arg4)) transposes_S5x14336x16_S5x16x14336_0_2_1) shapeCasts_S5x16x14336_S80x14336 := by
  after_results
  rfl
theorem host0_v4 (W : Valuation τ sig (Elt Ideal)) : StableHlo.after hostOps0 W (Proc.devRef .tc main_v4)
    = shapeCast S80x4096 (W (Proc.devRef .tc main_arg5)) shapeCasts_S5x16x4096_S80x4096 := by
  after_results
  rfl
theorem host0_v5 (W : Valuation τ sig (Elt Ideal)) : StableHlo.after hostOps0 W (Proc.devRef .tc main_v5)
    = shapeCast S1x1152 (W (Proc.devRef .tc main_arg6)) shapeCasts_S3x384_S1x1152 := by
  after_results
  rfl

theorem V_v0 (c : Dev nD) (t : Fin 1152) (d : Fin 14336) : V m c main_v0 (ix2 t d) = xAt (argsOf m c) t d := by
  have h : V m c main_v0 = shapeCast S1152x14336 (m ((c : Thread nD τ).loc main_arg0)) shapeCasts_S3x384x14336_S1152x14336 := host0_v0 _
  rw [h]
  exact flat_rows _ _ t d

theorem V_v1 (c : Dev nD) (t : Fin 1152) (n : Fin 4096) : V m c main_v1 (ix2 t n) = dyAt (argsOf m c) t n := by
  have h : V m c main_v1 = shapeCast S1152x4096 (m ((c : Thread nD τ).loc main_arg1)) shapeCasts_S3x384x4096_S1152x4096 := host0_v1 _
  rw [h]
  exact flat_rows _ _ t n

theorem V_v3 (c : Dev nD) (e : Fin 5) (r : Fin 16) (d : Fin 14336) : V m c main_v3 (ix2 (rankRow e r) d) = (argsOf m c).a (ix3 e d r) := by
  have h : V m c main_v3 = shapeCast S80x14336 (transpose S5x16x14336 [0, 2, 1] (m ((c : Thread nD τ).loc main_arg4)) transposes_S5x14336x16_S5x16x14336_0_2_1) shapeCasts_S5x16x14336_S80x14336 := host0_v3 _
  rw [h]
  refine (flat_ranks _ _ e r d).trans ?_
  pointwise
  rfl

theorem V_v4 (c : Dev nD) (e : Fin 5) (r : Fin 16) (n : Fin 4096) : V m c main_v4 (ix2 (rankRow e r) n) = (argsOf m c).b (ix3 e r n) := by
  have h : V m c main_v4 = shapeCast S80x4096 (m ((c : Thread nD τ).loc main_arg5)) shapeCasts_S5x16x4096_S80x4096 := host0_v4 _
  rw [h]
  exact flat_ranks _ _ e r n

theorem V_v5 (c : Dev nD) (t : Fin 1152) : V m c main_v5 (ix2 (0 : Fin 1) t) = idAt (argsOf m c) t := by
  have h : V m c main_v5 = shapeCast S1x1152 (m ((c : Thread nD τ).loc main_arg6)) shapeCasts_S3x384_S1x1152 := host0_v5 _
  rw [h]
  exact flat_row _ _ t

/-! ## Where a block's elements lie -/

theorem idx_facts : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = t.val)
    ∧ (win0_6.index t (0 : Fin 2) = 0 ∧ win0_6.index t (1 : Fin 2) = 0) :=
  (by decide +kernel : ∀ t : Fin grid0.N, _)

/-- The grid has 14 points. -/
theorem point_lt (t : Fin cfg0.N) : t.val < 14 := Nat.lt_of_lt_of_eq t.isLt N_0

/-- Column `l` of the tile at point `t`. -/
def colAt (t : Fin cfg0.N) (l : Fin 1024) : Fin 14336 := ⟨1024 * t.val + l.val, by have := point_lt t; omega⟩

theorem iblk0_apply (c : Dev nD) (t : Fin cfg0.N) (k : Fin 1152) : iblk m c 0 t (ix2 (0 : Fin 1) k) = idAt (argsOf m c) k := by
  obtain ⟨⟨e0, e1⟩, -⟩ := idx_facts t
  refine Eq.trans ?_ (V_v5 m c k)
  show V m c main_v5 (((cfg0.win 0).blk t).view.emb (ix2 (0 : Fin 1) k)) = _
  refine congrArg (V m c main_v5) (funext fun a => Fin.ext ?_)
  match a with
  | ⟨0, _⟩ => show win0_0.index t (0 : Fin 2) * 1 + 1 * 0 = 0; omega
  | ⟨1, _⟩ => show win0_0.index t (1 : Fin 2) * 1152 + 1 * k.val = k.val; omega

theorem iblk1_apply (c : Dev nD) (t : Fin cfg0.N) (k : Fin 1152) (n : Fin 4096) : iblk m c 1 t (ix2 k n) = dyAt (argsOf m c) k n := by
  obtain ⟨-, ⟨e0, e1⟩, -⟩ := idx_facts t
  refine Eq.trans ?_ (V_v1 m c k n)
  show V m c main_v1 (((cfg0.win 1).blk t).view.emb (ix2 k n)) = _
  refine congrArg (V m c main_v1) (funext fun a => Fin.ext ?_)
  match a with
  | ⟨0, _⟩ => show win0_1.index t (0 : Fin 2) * 1152 + 1 * k.val = k.val; omega
  | ⟨1, _⟩ => show win0_1.index t (1 : Fin 2) * 4096 + 1 * n.val = n.val; omega

theorem iblk2_apply (c : Dev nD) (t : Fin cfg0.N) (k : Fin 1152) (l : Fin 1024) : iblk m c 2 t (ix2 k l) = xAt (argsOf m c) k (colAt t l) := by
  obtain ⟨-, -, ⟨e0, e1⟩, -⟩ := idx_facts t
  refine Eq.trans ?_ (V_v0 m c k (colAt t l))
  show V m c main_v0 (((cfg0.win 2).blk t).view.emb (ix2 k l)) = _
  refine congrArg (V m c main_v0) (funext fun a => Fin.ext ?_)
  match a with
  | ⟨0, _⟩ => show win0_2.index t (0 : Fin 2) * 1152 + 1 * k.val = k.val; omega
  | ⟨1, _⟩ => show win0_2.index t (1 : Fin 2) * 1024 + 1 * l.val = 1024 * t.val + l.val; omega

theorem iblk3_apply (c : Dev nD) (t : Fin cfg0.N) (j : Fin 512) (n : Fin 4096) :
    iblk m c 3 t (ix2 j n) = (argsOf m c).w (ix2 ⟨512 * t.val + j.val, by have := point_lt t; omega⟩ n) := by
  obtain ⟨-, -, -, ⟨e0, e1⟩, -⟩ := idx_facts t
  refine Eq.trans ?_ (congrFun (V_main_arg2 m c) _)
  show V m c main_arg2 (((cfg0.win 3).blk t).view.emb (ix2 j n)) = _
  refine congrArg (V m c main_arg2) (funext fun a => Fin.ext ?_)
  match a with
  | ⟨0, _⟩ => show win0_3.index t (0 : Fin 2) * 512 + 1 * j.val = 512 * t.val + j.val; omega
  | ⟨1, _⟩ => show win0_3.index t (1 : Fin 2) * 4096 + 1 * n.val = n.val; omega

theorem iblk4_apply (c : Dev nD) (t : Fin cfg0.N) (k : Fin 8) (n : Fin 4096) :
    iblk m c 4 t (ix2 k n) = (argsOf m c).s (ix2 ⟨8 * t.val + k.val, by have := point_lt t; omega⟩ n) := by
  obtain ⟨-, -, -, -, ⟨e0, e1⟩, -⟩ := idx_facts t
  refine Eq.trans ?_ (congrFun (V_main_arg3 m c) _)
  show V m c main_arg3 (((cfg0.win 4).blk t).view.emb (ix2 k n)) = _
  refine congrArg (V m c main_arg3) (funext fun a => Fin.ext ?_)
  match a with
  | ⟨0, _⟩ => show win0_4.index t (0 : Fin 2) * 8 + 1 * k.val = 8 * t.val + k.val; omega
  | ⟨1, _⟩ => show win0_4.index t (1 : Fin 2) * 4096 + 1 * n.val = n.val; omega

theorem iblk5_apply (c : Dev nD) (t : Fin cfg0.N) (e : Fin 5) (r : Fin 16) (l : Fin 1024) :
    iblk m c 5 t (ix2 (rankRow e r) l) = (argsOf m c).a (ix3 e (colAt t l) r) := by
  obtain ⟨-, -, -, -, -, ⟨e0, e1⟩, -⟩ := idx_facts t
  refine Eq.trans ?_ (V_v3 m c e r (colAt t l))
  show V m c main_v3 (((cfg0.win 5).blk t).view.emb (ix2 (rankRow e r) l)) = _
  refine congrArg (V m c main_v3) (funext fun a => Fin.ext ?_)
  match a with
  | ⟨0, _⟩ => show win0_5.index t (0 : Fin 2) * 80 + 1 * (rankRow e r).val = (rankRow e r).val; omega
  | ⟨1, _⟩ => show win0_5.index t (1 : Fin 2) * 1024 + 1 * l.val = 1024 * t.val + l.val; omega

theorem iblk6_apply (c : Dev nD) (t : Fin cfg0.N) (e : Fin 5) (r : Fin 16) (n : Fin 4096) :
    iblk m c 6 t (ix2 (rankRow e r) n) = (argsOf m c).b (ix3 e r n) := by
  obtain ⟨-, -, -, -, -, -, e0, e1⟩ := idx_facts t
  refine Eq.trans ?_ (V_v4 m c e r n)
  show V m c main_v4 (((cfg0.win 6).blk t).view.emb (ix2 (rankRow e r) n)) = _
  refine congrArg (V m c main_v4) (funext fun a => Fin.ext ?_)
  match a with
  | ⟨0, _⟩ => show win0_6.index t (0 : Fin 2) * 80 + 1 * (rankRow e r).val = (rankRow e r).val; omega
  | ⟨1, _⟩ => show win0_6.index t (1 : Fin 2) * 4096 + 1 * n.val = n.val; omega

end Cert.KernelIdeal.Kern

end
-- ==== Proof.Kern.Tile.lean ====
/- WHAT EACH GRID POINT LEAVES, IN TERMS OF THE ARGUMENTS. The named values of the run are the layer's functions: the carried
   gradient rows are the masked rows, the accumulator after the last tile is `x · a`, and each output's block is the tile of
   its result. -/
module

public import proofs.«01_k».proof.Proof.Kern.Blocks

@[expose] public section

set_option maxRecDepth 16384

noncomputable section

namespace Cert.KernelIdeal.Kern

open Cert.KernelIdeal Cert.KernelIdeal.Gen Cert.Layer
open Idealize.ShloMosaic Idealize.ShloMosaic.TcCoe Idealize.ShloMosaic.Tactic
open scoped BigOperators

variable (m : (ℓ : Loc nD τ sig) → Buf (Elt Ideal) ℓ) (c : Dev nD)

/-! ## The gradient rows -/

theorem grad_rows (t : Fin cfg0.N) (r : Fin 16) (k : Fin 1152) :
    k0_pay1 (F := Ideal) (iblk m c 0 t) (iblk m c 6 t) (iblk m c 1 t) (ix2 r k) = gOwn (argsOf m c) k r := by
  rw [pay1_apply]
  unfold gOwn gAll
  refine Finset.sum_congr rfl fun n _ => ?_
  rw [iblk6_apply, iblk1_apply, iblk0_apply, mul_comm]

theorem gtC_apply (e : Fin 5) (r : Fin 16) (k : Fin 1152) :
    gtC m c (ix2 (rankRow e r) k) = masked (argsOf m c) (gOwn (argsOf m c)) k e r := by
  unfold gtC gtOf
  rw [pay14_eq, pay7_apply, grad_rows, iblk0_apply]
  rfl

theorem gmC_apply (e : Fin 5) (r : Fin 16) (k : Fin 1152) :
    gmC m c (ix2 k (rankRow e r)) = masked (argsOf m c) (gOwn (argsOf m c)) k e r := by
  unfold gmC gmOf
  rw [pay14_eq, pay8_apply, grad_rows, iblk0_apply]
  rfl

/-- Three planes stacked, read at a plane. -/
theorem stack3_apply (p0 p1 p2 : Vec Ideal S1x16x384 .bf16) (f : Fin 1152 → Fin 16 → EReal)
    (h0 : ∀ (r : Fin 16) (p : Fin 384), p0 (ix3 (0 : Fin 1) r p) = f (tokenAt 0 p) r)
    (h1 : ∀ (r : Fin 16) (p : Fin 384), p1 (ix3 (0 : Fin 1) r p) = f (tokenAt 1 p) r)
    (h2 : ∀ (r : Fin 16) (p : Fin 384), p2 (ix3 (0 : Fin 1) r p) = f (tokenAt 2 p) r)
    (q : Fin 3) (r : Fin 16) (p : Fin 384) : stack3 p0 p1 p2 (ix3 q r p) = f (tokenAt q p) r := by
  have hz : (fun a => match a with
      | ⟨0, _⟩ => ⟨0, Nat.one_pos⟩
      | ⟨1, _⟩ => ⟨r.val, r.isLt⟩
      | ⟨2, _⟩ => ⟨p.val, p.isLt⟩ : S1x16x384.Idx) = ix3 (0 : Fin 1) r p := by
    funext a
    match a with
    | ⟨0, _⟩ => rfl
    | ⟨1, _⟩ => rfl
    | ⟨2, _⟩ => rfl
  show (if q.val = 0 then p0 _ else if q.val = 1 then p1 _ else p2 _) = _
  by_cases e0 : q.val = 0
  · obtain rfl : q = 0 := Fin.ext e0
    rw [if_pos e0]
    exact (congrArg p0 hz).trans (h0 r p)
  by_cases e1 : q.val = 1
  · obtain rfl : q = 1 := Fin.ext e1
    rw [if_neg e0, if_pos e1]
    exact (congrArg p1 hz).trans (h1 r p)
  · obtain rfl : q = 2 := Fin.ext (by show q.val = 2; omega)
    rw [if_neg e0, if_neg e1]
    exact (congrArg p2 hz).trans (h2 r p)

theorem gC_apply (q : Fin 3) (r : Fin 16) (p : Fin 384) : gC m c (ix3 q r p) = gOwn (argsOf m c) (tokenAt q p) r := by
  unfold gC gOf
  rw [pay14_eq]
  exact stack3_apply _ _ _ _ (fun r p => by rw [pay2_apply, grad_rows]) (fun r p => by rw [pay3_apply, grad_rows])
    (fun r p => by rw [pay5_apply, grad_rows]) q r p

/-! ## The accumulator -/

/-- Tile `j`'s part of `x · a`. -/
def xaTile (A : Args) (e : Fin 5) (r : Fin 16) (k : Fin 1152) (j : ℕ) : EReal :=
  if h : j < 14 then ∑ l : Fin 1024, xAt A k ⟨j * 1024 + l.val, by omega⟩ * A.a (ix3 e ⟨j * 1024 + l.val, by omega⟩ r) else 0

/-- All the tiles' parts are `x · a`. -/
theorem sum_xaTile (A : Args) (e : Fin 5) (r : Fin 16) (k : Fin 1152) : ∑ j ∈ Finset.range 14, xaTile A e r k j = xaAll A k e r := by
  unfold xaAll
  rw [Fin.sum_univ_tiles 14 1024 rfl, Finset.sum_range]
  exact Finset.sum_congr rfl fun j _ => dif_pos j.isLt

theorem xaccStep_apply (t : Fin cfg0.N) (y : Vec Ideal S80x1152 .f32) (e : Fin 5) (r : Fin 16) (k : Fin 1152) :
    xaccStep (iblk m c 2 t) (iblk m c 5 t) y (ix2 (rankRow e r) k) = y (ix2 (rankRow e r) k) + xaTile (argsOf m c) e r k t.val := by
  unfold xaccStep xaTile
  rw [pay32_apply, dif_pos (point_lt t)]
  refine congrArg (y (ix2 (rankRow e r) k) + ·) (Finset.sum_congr rfl fun l _ => ?_)
  rw [iblk2_apply, iblk5_apply, mul_comm,
    show colAt t l = ⟨t.val * 1024 + l.val, by have := point_lt t; omega⟩ from Fin.ext (by show 1024 * t.val + l.val = t.val * 1024 + l.val; omega)]

theorem xaccAt_apply (e : Fin 5) (r : Fin 16) (k : Fin 1152) : ∀ (n : ℕ) (hn : n < cfg0.N),
    xaccAt m c n hn (ix2 (rankRow e r) k) = ∑ j ∈ Finset.range (n + 1), xaTile (argsOf m c) e r k j
  | 0, hn => by
    refine (xaccStep_apply m c ⟨0, hn⟩ (k0_pay16 (F := Ideal)) e r k).trans ?_
    have hz : k0_pay16 (F := Ideal) (ix2 (rankRow e r) k) = 0 := by
      unfold k0_pay16
      pointwise
    rw [hz, zero_add, Finset.sum_range_one]
  | n + 1, hn => by
    refine (xaccStep_apply m c ⟨n + 1, hn⟩ (xaccAt m c n (Nat.lt_of_succ_lt hn)) e r k).trans ?_
    rw [xaccAt_apply e r k n, Finset.sum_range_succ _ (n + 1)]

/-- After the last tile it is `x · a`. -/
theorem xacc_last (t : Fin cfg0.N) (ht : t.val = 13) (e : Fin 5) (r : Fin 16) (k : Fin 1152) :
    xaccAt m c t.val t.isLt (ix2 (rankRow e r) k) = xaAll (argsOf m c) k e r := by
  rw [xaccAt_apply, ht]
  exact sum_xaTile _ e r k

theorem xa_rows (t : Fin cfg0.N) (ht : t.val = 13) (r : Fin 16) (k : Fin 1152) :
    k0_pay9 (F := Ideal) (iblk m c 0 t) (xaccAt m c t.val t.isLt) (ix2 r k) = xaOwn (argsOf m c) k r := by
  rw [pay9_apply, xacc_last m c t ht, iblk0_apply]
  rfl

theorem xaOf_apply (t : Fin cfg0.N) (ht : t.val = 13) (q : Fin 3) (r : Fin 16) (p : Fin 384) :
    xaOf (iblk m c 0 t) (xaccAt m c t.val t.isLt) (ix3 q r p) = xaOwn (argsOf m c) (tokenAt q p) r := by
  unfold xaOf
  rw [pay14_eq]
  exact stack3_apply _ _ _ _ (fun r p => by rw [pay10_apply, xa_rows m c t ht]) (fun r p => by rw [pay11_apply, xa_rows m c t ht])
    (fun r p => by rw [pay12_apply, xa_rows m c t ht]) q r p

theorem dbOf_apply (t : Fin cfg0.N) (ht : t.val = 13) (e : Fin 5) (r : Fin 16) (n : Fin 4096) :
    dbOf (iblk m c 0 t) (iblk m c 1 t) (xaccAt m c t.val t.isLt) (ix2 (rankRow e r) n) = db (argsOf m c) e r n := by
  unfold dbOf db
  rw [pay14_eq, pay33_apply]
  refine Finset.sum_congr rfl fun k _ => ?_
  rw [pay6_apply, xa_rows m c t ht, iblk0_apply, iblk1_apply]
  rfl

/-! ## The tiles of `da` and `dx` -/

theorem daOf_apply (t : Fin cfg0.N) (e : Fin 5) (r : Fin 16) (l : Fin 1024) :
    daOf (iblk m c 2 t) (gtC m c) (ix2 (rankRow e r) l) = da (argsOf m c) e (colAt t l) r := by
  unfold daOf da
  rw [pay31_apply]
  exact Finset.sum_congr rfl fun k _ => by rw [gtC_apply, iblk2_apply]

theorem wdeq_apply (t : Fin cfg0.N) (l : Fin 1024) (n : Fin 4096) :
    wdeqOf (iblk m c 3 t) (iblk m c 4 t) (ix2 l n) = weight (argsOf m c) (colAt t l) n := by
  have hl := l.isLt
  have ht := point_lt t
  have hin : inChunk (ix2 l n) = ix2 (⟨l.val % 128, Nat.mod_lt _ (by decide)⟩ : Fin 128) n := by
    funext a
    match a with
    | ⟨0, _⟩ => rfl
    | ⟨1, _⟩ => rfl
  show k0_pay17 (F := Ideal) _ _ (inChunk (ix2 l n)) = _
  rw [hin, pay17_apply]
  have hw : packedRows (iblk m c 3 t) (chunkOf (ix2 l n)) (chunkOf_lt _) (ix2 (⟨l.val % 128 / 2, by omega⟩ : Fin 64) n)
      = (argsOf m c).w (ix2 ⟨(colAt t l).val / 2, by omega⟩ n) := by
    refine Eq.trans ?_ ((iblk3_apply m c t ⟨64 * (l.val / 128) + l.val % 128 / 2, by omega⟩ n).trans ?_)
    · refine congrArg (iblk m c 3 t) (funext fun a => ?_)
      match a with
      | ⟨0, _⟩ => rfl
      | ⟨1, _⟩ => rfl
    · refine congrArg (fun q => (argsOf m c).w (ix2 q n)) (Fin.ext ?_)
      show 512 * t.val + (64 * (l.val / 128) + l.val % 128 / 2) = (1024 * t.val + l.val) / 2
      omega
  have hs : scaleRow (F := Ideal) (iblk m c 4 t) (chunkOf (ix2 l n)) (chunkOf_lt _) (ix2 (0 : Fin 1) n)
      = (argsOf m c).s (ix2 ⟨(colAt t l).val / 128, by omega⟩ n) := by
    refine Eq.trans ?_ ((iblk4_apply m c t ⟨l.val / 128, by omega⟩ n).trans ?_)
    · refine congrArg (iblk m c 4 t) (funext fun a => ?_)
      match a with
      | ⟨0, _⟩ => rfl
      | ⟨1, _⟩ => rfl
    · refine congrArg (fun q => (argsOf m c).s (ix2 q n)) (Fin.ext ?_)
      show 8 * t.val + l.val / 128 = (1024 * t.val + l.val) / 128
      omega
  have hp : l.val % 128 % 2 = (colAt t l).val % 2 := by
    show l.val % 128 % 2 = (1024 * t.val + l.val) % 2
    omega
  unfold weight
  rw [← hw, ← hs, ← hp]

theorem dxOf_apply (t : Fin cfg0.N) (k : Fin 1152) (l : Fin 1024) :
    dxOf (iblk m c 1 t) (iblk m c 3 t) (iblk m c 4 t) (iblk m c 5 t) (gmC m c) (ix2 k l) = dx (argsOf m c) k (colAt t l) := by
  unfold dxOf dx
  rw [pay30_apply, sum_rankRow]
  refine congrArg₂ (· + ·) (Finset.sum_congr rfl fun n _ => ?_) (Finset.sum_congr rfl fun e _ => Finset.sum_congr rfl fun r _ => ?_)
  · rw [iblk1_apply, wdeq_apply]
  · rw [gmC_apply, iblk5_apply]

end Cert.KernelIdeal.Kern

end
-- ==== Proof.Kern.Final.lean ====
/- THE KERNEL'S FIVE RESULTS. Each output array after the run is put together from what its write-backs wrote (every point's
   tile, or the last point's whole array); the host's reshapes and transposes after the region then give the layer's five
   results. -/
module

public import proofs.«01_k».proof.Proof.Kern.Tile

@[expose] public section

set_option maxRecDepth 16384

noncomputable section

namespace Cert.KernelIdeal.Kern

open Cert.KernelIdeal Cert.KernelIdeal.Gen Cert.Layer
open Idealize.ShloMosaic Idealize.ShloMosaic.TcCoe Idealize.ShloMosaic.Tactic
open Idealize.SL.Sem

variable (m : (ℓ : Loc nD τ sig) → Buf (Elt Ideal) ℓ)

/-! ## The arrays the region leaves -/

/-- The output windows' block indices. -/
theorem out_facts : ∀ t : Fin cfg0.N,
    (win0_7.index t (0 : Fin 2) = 0 ∧ win0_7.index t (1 : Fin 2) = t.val)
    ∧ (win0_8.index t (0 : Fin 2) = 0 ∧ win0_8.index t (1 : Fin 2) = t.val)
    ∧ (win0_9.index t (0 : Fin 2) = 0 ∧ win0_9.index t (1 : Fin 2) = 0)
    ∧ (win0_10.index t (0 : Fin 3) = 0 ∧ win0_10.index t (1 : Fin 3) = 0 ∧ win0_10.index t (2 : Fin 3) = 0)
    ∧ (win0_11.index t (0 : Fin 3) = 0 ∧ win0_11.index t (1 : Fin 3) = 0 ∧ win0_11.index t (2 : Fin 3) = 0) :=
  (by decide +kernel : ∀ t : Fin grid0.N, _)

def flatDx (A : Args) : S1152x14336.Idx → EReal := fun i => dx A (i 0) (i 1)
def flatDa (A : Args) : S80x14336.Idx → EReal := fun i => da A (adapterRow (i 0)) (i 1) (rankOf (i 0))
def flatDb (A : Args) : S80x4096.Idx → EReal := fun i => db A (adapterRow (i 0)) (rankOf (i 0)) (i 1)
def turnedG (A : Args) : S3x16x384.Idx → EReal := fun i => gOwn A (tokenAt (i 0) (i 2)) (i 1)
def turnedXa (A : Args) : S3x16x384.Idx → EReal := fun i => xaOwn A (tokenAt (i 0) (i 2)) (i 1)

theorem flatDa_rank (A : Args) (e : Fin 5) (r : Fin 16) (d : Fin 14336) : flatDa A (ix2 (rankRow e r) d) = da A e d r := by
  show da A (adapterRow (rankRow e r)) d (rankOf (rankRow e r)) = _
  rw [adapterRow_rankRow, rankOf_rankRow]
theorem flatDb_rank (A : Args) (e : Fin 5) (r : Fin 16) (n : Fin 4096) : flatDb A (ix2 (rankRow e r) n) = db A e r n := by
  show db A (adapterRow (rankRow e r)) (rankOf (rankRow e r)) n = _
  rw [adapterRow_rankRow, rankOf_rankRow]

theorem final_dx (c : Dev nD) : (dats m 0 c).arrAt 7 cfg0.N = flatDx (argsOf m c) := by
  refine (dats m 0 c).arrAt_eq_of_covers 7 _ (by decide +kernel) fun t hf y => ?_
  obtain ⟨⟨e0, e1⟩, -⟩ := out_facts t
  have hy : y = ix2 (n0 := 1152) (n1 := 1024) (y 0) (y 1) := eq_ix2 (n0 := 1152) (n1 := 1024) y
  have he : ((cfg0.win 7).blk t).view.emb y = ix2 (n0 := 1152) (n1 := 14336) (y 0) (colAt t (y 1)) := by
    funext a; apply Fin.ext
    match a with
    | ⟨0, _⟩ => show win0_7.index t (0 : Fin 2) * 1152 + 1 * (y 0).val = (y 0).val; omega
    | ⟨1, _⟩ => show win0_7.index t (1 : Fin 2) * 1024 + 1 * (y 1).val = 1024 * t.val + (y 1).val; omega
  rw [he]
  show (dats m 0 c).after 7 t y = _
  rw [after0_7, hy]
  exact dxOf_apply m c t (y 0) (y 1)

theorem final_da (c : Dev nD) : (dats m 0 c).arrAt 8 cfg0.N = flatDa (argsOf m c) := by
  refine (dats m 0 c).arrAt_eq_of_covers 8 _ (by decide +kernel) fun t hf y => ?_
  obtain ⟨-, ⟨e0, e1⟩, -⟩ := out_facts t
  have hy : y = ix2 (n0 := 80) (n1 := 1024) (rankRow (adapterRow (y 0)) (rankOf (y 0))) (y 1) :=
    (eq_ix2 (n0 := 80) (n1 := 1024) y).trans (congrArg (fun q => ix2 (n0 := 80) (n1 := 1024) q (y 1)) (rankRow_self (y 0)).symm)
  have he : ((cfg0.win 8).blk t).view.emb y = ix2 (n0 := 80) (n1 := 14336) (y 0) (colAt t (y 1)) := by
    funext a; apply Fin.ext
    match a with
    | ⟨0, _⟩ => show win0_8.index t (0 : Fin 2) * 80 + 1 * (y 0).val = (y 0).val; omega
    | ⟨1, _⟩ => show win0_8.index t (1 : Fin 2) * 1024 + 1 * (y 1).val = 1024 * t.val + (y 1).val; omega
  rw [he]
  show (dats m 0 c).after 8 t y = _
  rw [after0_8]
  exact (congrArg (daOf (iblk m c 2 t) (gtC m c)) hy).trans (daOf_apply m c t _ _ (y 1))

theorem final_db (c : Dev nD) : (dats m 0 c).arrAt 9 cfg0.N = flatDb (argsOf m c) := by
  refine (dats m 0 c).arrAt_eq_of_covers 9 _ (by decide +kernel) fun t hf y => ?_
  have ht : t.val = 13 := by have := (flush0_9 t).mp hf; have := point_lt t; omega
  obtain ⟨-, -, ⟨e0, e1⟩, -⟩ := out_facts t
  have hy : y = ix2 (n0 := 80) (n1 := 4096) (rankRow (adapterRow (y 0)) (rankOf (y 0))) (y 1) :=
    (eq_ix2 (n0 := 80) (n1 := 4096) y).trans (congrArg (fun q => ix2 (n0 := 80) (n1 := 4096) q (y 1)) (rankRow_self (y 0)).symm)
  have he : ((cfg0.win 9).blk t).view.emb y = ix2 (n0 := 80) (n1 := 4096) (y 0) (y 1) := by
    funext a; apply Fin.ext
    match a with
    | ⟨0, _⟩ => show win0_9.index t (0 : Fin 2) * 80 + 1 * (y 0).val = (y 0).val; omega
    | ⟨1, _⟩ => show win0_9.index t (1 : Fin 2) * 4096 + 1 * (y 1).val = (y 1).val; omega
  rw [he]
  show (dats m 0 c).after 9 t y = _
  rw [after0_9]
  exact (congrArg (dbOf (iblk m c 0 t) (iblk m c 1 t) (xaccAt m c t.val t.isLt)) hy).trans (dbOf_apply m c t ht _ _ (y 1))

theorem final_g (c : Dev nD) : (dats m 0 c).arrAt 10 cfg0.N = turnedG (argsOf m c) := by
  refine (dats m 0 c).arrAt_eq_of_covers 10 _ (by decide +kernel) fun t hf y => ?_
  obtain ⟨-, -, -, ⟨e0, e1, e2⟩, -⟩ := out_facts t
  have hy : y = ix3 (n0 := 3) (n1 := 16) (n2 := 384) (y 0) (y 1) (y 2) := eq_ix3 (n0 := 3) (n1 := 16) (n2 := 384) y
  have he : ((cfg0.win 10).blk t).view.emb y = ix3 (n0 := 3) (n1 := 16) (n2 := 384) (y 0) (y 1) (y 2) := by
    funext a; apply Fin.ext
    match a with
    | ⟨0, _⟩ => show win0_10.index t (0 : Fin 3) * 3 + 1 * (y 0).val = (y 0).val; omega
    | ⟨1, _⟩ => show win0_10.index t (1 : Fin 3) * 16 + 1 * (y 1).val = (y 1).val; omega
    | ⟨2, _⟩ => show win0_10.index t (2 : Fin 3) * 384 + 1 * (y 2).val = (y 2).val; omega
  rw [he]
  show (dats m 0 c).after 10 t y = _
  rw [after0_10, hy]
  exact gC_apply m c (y 0) (y 1) (y 2)

theorem final_xa (c : Dev nD) : (dats m 0 c).arrAt 11 cfg0.N = turnedXa (argsOf m c) := by
  refine (dats m 0 c).arrAt_eq_of_covers 11 _ (by decide +kernel) fun t hf y => ?_
  have ht : t.val = 13 := by have := (flush0_11 t).mp hf; have := point_lt t; omega
  obtain ⟨-, -, -, -, e0, e1, e2⟩ := out_facts t
  have hy : y = ix3 (n0 := 3) (n1 := 16) (n2 := 384) (y 0) (y 1) (y 2) := eq_ix3 (n0 := 3) (n1 := 16) (n2 := 384) y
  have he : ((cfg0.win 11).blk t).view.emb y = ix3 (n0 := 3) (n1 := 16) (n2 := 384) (y 0) (y 1) (y 2) := by
    funext a; apply Fin.ext
    match a with
    | ⟨0, _⟩ => show win0_11.index t (0 : Fin 3) * 3 + 1 * (y 0).val = (y 0).val; omega
    | ⟨1, _⟩ => show win0_11.index t (1 : Fin 3) * 16 + 1 * (y 1).val = (y 1).val; omega
    | ⟨2, _⟩ => show win0_11.index t (2 : Fin 3) * 384 + 1 * (y 2).val = (y 2).val; omega
  rw [he]
  show (dats m 0 c).after 11 t y = _
  rw [after0_11, hy]
  exact xaOf_apply m c t ht (y 0) (y 1) (y 2)

/-! ## The host's operations after the region -/

theorem host1_v7 (W : Valuation τ sig (Elt Ideal)) : StableHlo.after hostOps1 W (Proc.devRef .tc main_v7)
    = shapeCast S3x384x14336 (W (Proc.devRef .tc main_v6_0)) shapeCasts_S1152x14336_S3x384x14336 := by
  after_results
  rfl
theorem host1_v9 (W : Valuation τ sig (Elt Ideal)) : StableHlo.after hostOps1 W (Proc.devRef .tc main_v9)
    = transpose S5x14336x16 [0, 2, 1] (shapeCast S5x16x14336 (W (Proc.devRef .tc main_v6_1)) shapeCasts_S80x14336_S5x16x14336)
        transposes_S5x16x14336_S5x14336x16_0_2_1 := by
  after_results
  rfl
theorem host1_v10 (W : Valuation τ sig (Elt Ideal)) : StableHlo.after hostOps1 W (Proc.devRef .tc main_v10)
    = shapeCast S5x16x4096 (W (Proc.devRef .tc main_v6_2)) shapeCasts_S80x4096_S5x16x4096 := by
  after_results
  rfl
theorem host1_v11 (W : Valuation τ sig (Elt Ideal)) : StableHlo.after hostOps1 W (Proc.devRef .tc main_v11)
    = transpose S3x384x16 [0, 2, 1] (W (Proc.devRef .tc main_v6_3)) transposes_S3x16x384_S3x384x16_0_2_1 := by
  after_results
theorem host1_v12 (W : Valuation τ sig (Elt Ideal)) : StableHlo.after hostOps1 W (Proc.devRef .tc main_v12)
    = transpose S3x384x16 [0, 2, 1] (W (Proc.devRef .tc main_v6_4)) transposes_S3x16x384_S3x384x16_0_2_1 := by
  after_results

/-- The windows' arrays are distinct. -/
theorem arr_injective : Function.Injective (Pipeline.arrRef spec0) := by decide

/-- A window's array at the region's exit. -/
theorem exit_arr (c : Dev nD) (w : Fin cfg0.W) :
    Pipeline.withArrays spec0 c (V0 m c) (fun w => (dats m 0 c).arrAt w cfg0.N) (Proc.devRef .tc (Pipeline.arrRef spec0 w))
      = (dats m 0 c).arrAt w cfg0.N :=
  Pipeline.withArrays_arr spec0 arr_injective c (V0 m c) _ w

theorem tail_dx (c : Dev nD) : Pipeline.afterTail₀ cfgs (dats m) 0 (V0 m) [hostOps1] c main_v7 = resDx (argsOf m c) := by
  refine (host1_v7 _).trans ?_
  refine (congrArg (fun z => shapeCast S3x384x14336 z shapeCasts_S1152x14336_S3x384x14336) ((exit_arr m c 7).trans (final_dx m c))).trans ?_
  funext i
  rw [eq_ix3 (n0 := 3) (n1 := 384) (n2 := 14336) i]
  exact (unflat_rows _ _ (i 0) (i 1) (i 2)).trans rfl

theorem tail_da (c : Dev nD) : Pipeline.afterTail₀ cfgs (dats m) 0 (V0 m) [hostOps1] c main_v9 = resDa (argsOf m c) := by
  refine (host1_v9 _).trans ?_
  refine (congrArg (fun z => transpose S5x14336x16 [0, 2, 1] (shapeCast S5x16x14336 z shapeCasts_S80x14336_S5x16x14336)
    transposes_S5x16x14336_S5x14336x16_0_2_1) ((exit_arr m c 8).trans (final_da m c))).trans ?_
  funext i
  rw [eq_ix3 (n0 := 5) (n1 := 14336) (n2 := 16) i]
  have h : transpose S5x14336x16 [0, 2, 1] (shapeCast S5x16x14336 (flatDa (argsOf m c)) shapeCasts_S80x14336_S5x16x14336)
      transposes_S5x16x14336_S5x14336x16_0_2_1 (ix3 (n0 := 5) (n1 := 14336) (n2 := 16) (i 0) (i 1) (i 2))
      = shapeCast S5x16x14336 (flatDa (argsOf m c)) shapeCasts_S80x14336_S5x16x14336 (ix3 (n0 := 5) (n1 := 16) (n2 := 14336) (i 0) (i 2) (i 1)) := by
    generalize shapeCast S5x16x14336 (flatDa (argsOf m c)) shapeCasts_S80x14336_S5x16x14336 = z
    pointwise
  exact h.trans ((rank_planes _ _ (i 0) (i 2) (i 1)).trans (flatDa_rank _ (i 0) (i 2) (i 1)))

theorem tail_db (c : Dev nD) : Pipeline.afterTail₀ cfgs (dats m) 0 (V0 m) [hostOps1] c main_v10 = resDb (argsOf m c) := by
  refine (host1_v10 _).trans ?_
  refine (congrArg (fun z => shapeCast S5x16x4096 z shapeCasts_S80x4096_S5x16x4096) ((exit_arr m c 9).trans (final_db m c))).trans ?_
  funext i
  rw [eq_ix3 (n0 := 5) (n1 := 16) (n2 := 4096) i]
  exact (rank_planes _ _ (i 0) (i 1) (i 2)).trans (flatDb_rank _ (i 0) (i 1) (i 2))

/-- The last two axes exchanged. -/
theorem turned (z : S3x16x384.Idx → EReal) (i : S3x384x16.Idx) :
    transpose S3x384x16 [0, 2, 1] z transposes_S3x16x384_S3x384x16_0_2_1 i = z (ix3 (n0 := 3) (n1 := 16) (n2 := 384) (i 0) (i 2) (i 1)) := by
  idx_vars i
  pointwise

theorem tail_g (c : Dev nD) : Pipeline.afterTail₀ cfgs (dats m) 0 (V0 m) [hostOps1] c main_v11 = resG (argsOf m c) := by
  refine (host1_v11 _).trans ?_
  refine (congrArg (fun z => transpose S3x384x16 [0, 2, 1] z transposes_S3x16x384_S3x384x16_0_2_1) ((exit_arr m c 10).trans (final_g m c))).trans ?_
  funext i
  exact turned _ i

theorem tail_xa (c : Dev nD) : Pipeline.afterTail₀ cfgs (dats m) 0 (V0 m) [hostOps1] c main_v12 = resXa (argsOf m c) := by
  refine (host1_v12 _).trans ?_
  refine (congrArg (fun z => transpose S3x384x16 [0, 2, 1] z transposes_S3x16x384_S3x384x16_0_2_1) ((exit_arr m c 11).trans (final_xa m c))).trans ?_
  funext i
  exact turned _ i

/-- THE KERNEL'S RUN: it ends with the layer's five results, the arguments as they were. -/
theorem results (ρ : Dev nD → PrngReg) : θ_run defs (onTc (τ := τ) (main (F := Ideal))) ⟨m, fun _ => 0, ρ⟩ (fun r => ∀ c : Dev nD,
      r.2.mem ((c.tc : Thread nD τ).loc main_v7) = resDx (argsOf m c)
      ∧ r.2.mem ((c.tc : Thread nD τ).loc main_v9) = resDa (argsOf m c)
      ∧ r.2.mem ((c.tc : Thread nD τ).loc main_v10) = resDb (argsOf m c)
      ∧ r.2.mem ((c.tc : Thread nD τ).loc main_v11) = resG (argsOf m c)
      ∧ r.2.mem ((c.tc : Thread nD τ).loc main_v12) = resXa (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h.1.rest_eq c main_v7 (by decide)).trans (tail_dx m c),
     (h.1.rest_eq c main_v9 (by decide)).trans (tail_da m c),
     (h.1.rest_eq c main_v10 (by decide)).trans (tail_db m c),
     (h.1.rest_eq c main_v11 (by decide)).trans (tail_g m c),
     (h.1.rest_eq c main_v12 (by decide)).trans (tail_xa m c),
     h.2 c⟩)
    (θ_run_and (run_main m ρ) (unchanged m ρ))

end Cert.KernelIdeal.Kern

end
-- ==== Proof.Ref.Rows.lean ====
/- THE REFERENCE'S FIRST STAGES, READ AT AN INDEX: its reshaped arguments, the alpha/rank factor, the products of every token with
   every adapter, and the int4 weight against `dy`. -/
module

public import proofs.«01_k».proof.Proof.Gen.ReferenceIdeal.Read
public import proofs.«01_k».proof.Proof.Maths.Reshape
public import Idealize.ShloMosaic.Lib.Pointwise

@[expose] public section

set_option maxRecDepth 16384

noncomputable section

namespace Cert.ReferenceIdeal.Ref

open Cert.ReferenceIdeal Cert.ReferenceIdeal.Gen Cert.ReferenceIdeal.Read Cert.Layer
open Idealize.ShloMosaic Idealize.ShloMosaic.TcCoe

variable (A : Args)

/-! ## The arguments in rows of tokens, and the factor 16 / 16 -/

theorem x_row (t : Fin 1152) (d : Fin 14336) : val_main_v0 (F := Ideal) A.x (ix2 t d) = xAt A t d := flat_rows _ _ t d
theorem dy_row (t : Fin 1152) (n : Fin 4096) : val_main_v1 (F := Ideal) A.dy (ix2 t n) = dyAt A t n := flat_rows _ _ t n
theorem id_row (t : Fin 1152) : val_main_v2 (F := Ideal) A.ids (ix1 t) = idAt A t := flat_list _ _ t

/-- The word 0x41800000 is the number sixteen. -/
theorem ofBits_16 : Ideal.ofBits FTy.f32 0x41800000#32 = ((16 : ℝ) : EReal) := by
  simp [Ideal.ofBits, Ideal.ieee, -EReal.coe_mul]; norm_num

/-- Alpha over the rank is one. -/
theorem factor (i : S_.Idx) : val_main_v3 (F := Ideal) i = 1 := by
  unfold val_main_v3 val_main_cst val_main_cst_0
  pointwise
  rw [ofBits_16]
  have h0 : ((16 : ℝ) : EReal) ≠ 0 := by exact_mod_cast (by norm_num : (16 : ℝ) ≠ 0)
  rw [Ideal.div, if_neg h0, ← EReal.coe_inv, ← EReal.coe_mul, mul_inv_cancel₀ (by norm_num), EReal.coe_one]

/-! ## Every token against every adapter -/

theorem g_all (t : Fin 1152) (e : Fin 5) (r : Fin 16) : val_main_v31 (F := Ideal) A.dy A.b (ix3 t e r) = gAll A t e r := by
  unfold val_main_v31 gAll
  pointwise
  exact Finset.sum_congr rfl fun n _ => congrArg (· * _) (dy_row A t n)

theorem xa_all (t : Fin 1152) (e : Fin 5) (r : Fin 16) : val_main_v32 (F := Ideal) A.x A.a (ix3 t e r) = xaAll A t e r := by
  unfold val_main_v32 xaAll
  pointwise
  exact Finset.sum_congr rfl fun d _ => congrArg (· * _) (x_row A t d)

/-! ## The weight -/

/-- The low nibble of a byte, made signed by subtracting 16 from the codes above 7. -/
theorem low_code (v : BitVec 8) :
    (Scalar.select (IntOp.cmpi CmpIPredicate.sge (IntOp.andi (BitVec.setWidth 32 v) 15#32) 8#32)
          (IntOp.subi (IntOp.andi (BitVec.setWidth 32 v) 15#32) 16#32)
          (IntOp.andi (BitVec.setWidth 32 v) 15#32)).toInt = (codeOf v 0).toInt := by
  revert v
  decide +kernel

/-- The high nibble. -/
theorem high_code (v : BitVec 8) :
    (Scalar.select (IntOp.cmpi CmpIPredicate.sge (IntOp.shrsi .host (BitVec.setWidth 32 v) 4#32) 8#32)
          (IntOp.subi (IntOp.shrsi .host (BitVec.setWidth 32 v) 4#32) 16#32)
          (IntOp.shrsi .host (BitVec.setWidth 32 v) 4#32)).toInt = (codeOf v 1).toInt := by
  revert v
  decide +kernel

/-- The weight's even rows, -/
theorem weight_even (j : Fin 7168) (n : Fin 4096) :
    val_main_v22 (F := Ideal) A.w A.s (ix2 j n) = weight A ⟨2 * j.val, by omega⟩ n := by
  unfold val_main_v22 val_main_v21 val_main_v20 val_main_v19 val_main_v13 val_main_v12 val_main_v10 val_main_v11 val_main_c_3
    val_main_v9 val_main_c_2 val_main_v6 val_main_v5 val_main_c val_main_v4
  pointwise
  have hw : (⟨(2 * j.val) / 2, by omega⟩ : Fin 7168) = j := Fin.ext (by show (2 * j.val) / 2 = j.val; omega)
  have hs : (⟨(2 * j.val) / 128, by omega⟩ : Fin 112) = ⟨j.val / 64, by omega⟩ :=
    Fin.ext (by show (2 * j.val) / 128 = j.val / 64; omega)
  have hp : (2 * j.val) % 2 = 0 := by omega
  unfold weight
  show _ = ((((codeOf (A.w (ix2 (⟨(2 * j.val) / 2, by omega⟩ : Fin 7168) n)) ((2 * j.val) % 2)).toInt : ℤ) : ℝ) : EReal)
    * A.s (ix2 (⟨(2 * j.val) / 128, by omega⟩ : Fin 112) n)
  rw [hw, hs, hp, ← low_code]
  rfl

/-- and its odd rows. -/
theorem weight_odd (j : Fin 7168) (n : Fin 4096) :
    val_main_v24 (F := Ideal) A.w A.s (ix2 j n) = weight A ⟨2 * j.val + 1, by omega⟩ n := by
  unfold val_main_v24 val_main_v23 val_main_v20 val_main_v19 val_main_v18 val_main_v17 val_main_v16 val_main_c_5 val_main_v15
    val_main_v14 val_main_c_4 val_main_v8 val_main_v7 val_main_c_1 val_main_v4
  pointwise
  have hw : (⟨(2 * j.val + 1) / 2, by omega⟩ : Fin 7168) = j := Fin.ext (by show (2 * j.val + 1) / 2 = j.val; omega)
  have hs : (⟨(2 * j.val + 1) / 128, by omega⟩ : Fin 112) = ⟨j.val / 64, by omega⟩ :=
    Fin.ext (by show (2 * j.val + 1) / 128 = j.val / 64; omega)
  have hp : (2 * j.val + 1) % 2 = 1 := by omega
  unfold weight
  show _ = ((((codeOf (A.w (ix2 (⟨(2 * j.val + 1) / 2, by omega⟩ : Fin 7168) n)) ((2 * j.val + 1) % 2)).toInt : ℤ) : ℝ) : EReal)
    * A.s (ix2 (⟨(2 * j.val + 1) / 128, by omega⟩ : Fin 112) n)
  rw [hw, hs, hp, ← high_code]
  rfl

/-- `dy` against the weight, even and odd columns interleaved. -/
theorem base_dx (t : Fin 1152) (d : Fin 14336) :
    val_main_v30 (F := Ideal) A.dy A.w A.s (ix2 t d) = ∑ n : Fin 4096, dyAt A t n * weight A d n := by
  unfold val_main_v30 val_main_v29 val_main_v28 val_main_v27 val_main_v26 val_main_v25
  pointwise
  by_cases h : d.val % 2 < 1
  · rw [dif_pos h]
    refine Finset.sum_congr rfl fun n _ => ?_
    rw [dy_row A t n, weight_even]
    exact congrArg (fun k => dyAt A t n * weight A k n) (Fin.ext (by show 2 * (d.val / 2) = d.val; omega))
  · rw [dif_neg h]
    refine Finset.sum_congr rfl fun n _ => ?_
    rw [dy_row A t n, weight_odd]
    exact congrArg (fun k => dyAt A t n * weight A k n) (Fin.ext (by show 2 * (d.val / 2) + 1 = d.val; omega))

end Cert.ReferenceIdeal.Ref

end
-- ==== Proof.Ref.Own.lean ====
/- EACH TOKEN'S OWN ADAPTER, in the reference: under the precondition that every id names an adapter, the entries it gathers are those of
   the token's adapter, and none is replaced by NaN. -/
module

public import proofs.«01_k».proof.Proof.Ref.Rows
public import proofs.«01_k».proof.Proof.Maths.Reshape
public import Idealize.ShloMosaic.Lib.Pointwise

@[expose] public section

set_option maxRecDepth 16384

noncomputable section

namespace Cert.ReferenceIdeal.Ref

open Cert.ReferenceIdeal Cert.ReferenceIdeal.Gen Cert.ReferenceIdeal.Read Cert.Layer
open Idealize.ShloMosaic Idealize.ShloMosaic.TcCoe

/-- The gather's dimension numbers. -/
abbrev gd : GatherDims S1152x5x16 S1152x1x1 S1152x1x16 := gather_S1152x5x16_S1152x1x1_S1152x1x16_2_1_0_0_1_2_1116

/-- The gather of one row of ranks per token: token `t` takes the row its index names. -/
theorem gather_own {α : Type} (x : S1152x5x16.Idx → α) (idx : S1152x1x1.Idx → BitVec 32) (t : Fin 1152) (r : Fin 16) (e : Fin 5)
    (h : idx (ix3 t (0 : Fin 1) (0 : Fin 1)) = BitVec.ofNat 32 e.val) :
    Host.gather gd x idx (ix3 t (0 : Fin 1) r) = x (ix3 t e r) := by
  unfold Host.gather
  congr 1
  funext a
  refine Fin.ext ?_
  show gd.start (ix3 t (0 : Fin 1) r) idx a + gd.batchCoord (ix3 t (0 : Fin 1) r) a
    + gd.offCoord (ix3 t (0 : Fin 1) r) a = _
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 3) ∈ gd.operandBatchingDims from List.mem_singleton.mpr rfl)]
    simp only [Nat.zero_add, Nat.add_zero]
    rfl
  · rw [GatherDims.batchCoord_eq_zero _ _ _ (fun h => by simp [gd, gather_S1152x5x16_S1152x1x1_S1152x1x16_2_1_0_0_1_2_1116] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gd.startIndexMap from List.mem_singleton.mpr rfl)]
    have hsi : gd.siIdx (ix3 t (0 : Fin 1) r) ⟨List.idxOf (1 : Fin 3) gd.startIndexMap,
        List.idxOf_lt_length_iff.2 (List.mem_singleton.mpr rfl)⟩ = ix3 t (0 : Fin 1) (0 : Fin 1) := by
      funext b; refine Fin.ext ?_
      match b with
      | ⟨0, _⟩ => rfl
      | ⟨1, _⟩ => rfl
      | ⟨2, _⟩ => rfl
    rw [hsi, h]
    show min (BitVec.ofNat 32 e.val).toInt.toNat 4 = e.val
    clear h hsi
    revert e
    decide +kernel
  · rw [GatherDims.batchCoord_eq_zero _ _ _ (fun h => by simp [gd, gather_S1152x5x16_S1152x1x1_S1152x1x16_2_1_0_0_1_2_1116] at h)]
    unfold GatherDims.start
    rw [dif_neg (fun h => by simp [gd, gather_S1152x5x16_S1152x1x1_S1152x1x16_2_1_0_0_1_2_1116] at h)]
    unfold GatherDims.offCoord
    rw [dif_pos ((GatherDims.mem_sKept _ _).mpr ⟨fun h => by simp [gd, gather_S1152x5x16_S1152x1x1_S1152x1x16_2_1_0_0_1_2_1116] at h, fun h => by simp [gd, gather_S1152x5x16_S1152x1x1_S1152x1x16_2_1_0_0_1_2_1116] at h⟩)]
    simp only [Nat.zero_add, Nat.add_zero]
    rfl

variable (A : Args) (hids : ∀ t, idAt A t = BitVec.ofNat 32 (adapterOf (idAt A t)).val)
include hids

/-- The index the gather takes is the id, -/
theorem index_own (t : Fin 1152) :
    val_main_call2_v4 (F := Ideal) A.ids (ix3 t (0 : Fin 1) (0 : Fin 1)) = BitVec.ofNat 32 (adapterOf (idAt A t)).val := by
  unfold val_main_call2_v4 val_main_call2_v3 val_main_call2_v2 val_main_call2_v1 val_main_call2_v0 val_main_call2_c
    val_main_call2_c_0 val_main_v33
  pointwise
  rw [id_row, hids t]
  generalize adapterOf (idAt A t) = e
  revert e
  decide +kernel

/-- and it is within bounds. -/
theorem within (t : Fin 1152) : val_main_call2_v11 (F := Ideal) A.ids (ix2 t (0 : Fin 1)) = 1#1 := by
  have hx : ∀ k : Fin 1, val_main_call2_v10 (F := Ideal) A.ids (ix3 t (0 : Fin 1) k) = 1#1 := by
    intro k
    obtain rfl : k = 0 := Subsingleton.elim _ _
    have hi := index_own A hids t
    unfold val_main_call2_v10 val_main_call2_v9 val_main_call2_v8 val_main_call2_v7 val_main_call2_v6 val_main_call2_v5
      val_main_call2_c_1 val_main_call2_c_2
    generalize val_main_call2_v4 (F := Ideal) A.ids = z at hi ⊢
    pointwise
    rw [hi]
    generalize adapterOf (idAt A t) = e
    revert e
    decide +kernel
  unfold val_main_call2_v11
  pointwise
  rw [show (fun k : Fin 1 => val_main_call2_v10 (F := Ideal) A.ids (ix3 t (0 : Fin 1) k)) = fun _ => 1#1 from funext hx,
    Finset.univ_unique, Finset.fold_singleton]
  rfl

/-- `dy bᵀ` with each token's own adapter, -/
theorem g_own (t : Fin 1152) (r : Fin 16) : val_main_v36 (F := Ideal) A.dy A.b A.ids (ix2 t r) = gOwn A t r := by
  unfold val_main_v36 val_main_v35 val_main_v34 val_main_call2_v13 val_main_call2_v14
  pointwise
  rw [within A hids t]
  exact (gather_own _ _ t r _ (index_own A hids t)).trans (g_all A t _ r)

/-- and `x a`. -/
theorem xa_own (t : Fin 1152) (r : Fin 16) : val_main_v40 (F := Ideal) A.x A.a A.ids (ix2 t r) = xaOwn A t r := by
  unfold val_main_v40 val_main_v39 val_main_v38 val_main_call3_v13 val_main_call3_v14
  pointwise
  rw [show val_main_call3_v11 (F := Ideal) A.ids = val_main_call2_v11 (F := Ideal) A.ids from rfl, within A hids t]
  exact (gather_own _ _ t r _ (index_own A hids t)).trans (xa_all A t _ r)

end Cert.ReferenceIdeal.Ref

end
-- ==== Proof.Ref.Results.lean ====
/- THE FIVE RESULTS OF THE REFERENCE, under the precondition that every id names an adapter: the layer's functions. -/
module

public import proofs.«01_k».proof.Proof.Ref.Own
public import proofs.«01_k».proof.Proof.Maths.Reshape
public import Idealize.ShloMosaic.Lib.Pointwise

@[expose] public section

set_option maxRecDepth 16384

noncomputable section

namespace Cert.ReferenceIdeal.Ref

open Cert.ReferenceIdeal Cert.ReferenceIdeal.Gen Cert.ReferenceIdeal.Read Cert.Layer
open Idealize.ShloMosaic Idealize.ShloMosaic.TcCoe

/-- The one-hot row of a token's adapter times a row of ranks. -/
theorem onehot (v : BitVec 32) (e : Fin 5) (y : EReal) :
    (FloatOps.uitofp (F := Ideal) FTy.bf16 (IntOp.cmpi CmpIPredicate.eq v (BitVec.ofNat 32 e.val)) : EReal) * y
      = if v = BitVec.ofNat 32 e.val then y else 0 := by
  show (((BitVec.ofBool (v == BitVec.ofNat 32 e.val)).toNat : ℝ) : EReal) * y = _
  by_cases h : v = BitVec.ofNat 32 e.val
  · rw [if_pos h, beq_iff_eq.mpr h]
    simp
  · rw [if_neg h, beq_eq_false_iff_ne.mpr h]
    simp

variable (A : Args) (hids : ∀ t, idAt A t = BitVec.ofNat 32 (adapterOf (idAt A t)).val)
include hids

theorem g_masked (t : Fin 1152) (e : Fin 5) (r : Fin 16) :
    val_main_v46 (F := Ideal) A.dy A.b A.ids (ix3 t e r) = masked A (gOwn A) t e r := by
  unfold val_main_v46 val_main_v45 val_main_v44 val_main_v43 val_main_v42 val_main_v41 val_main_call4_v4 val_main_call4_v3
    val_main_call4_v2 val_main_call4_v1 val_main_call4_v0 masked
  pointwise
  rw [id_row, g_own A hids]
  exact onehot _ _ _

theorem xa_masked (t : Fin 1152) (e : Fin 5) (r : Fin 16) :
    val_main_v51 (F := Ideal) A.x A.a A.ids (ix3 t e r) = masked A (xaOwn A) t e r := by
  unfold val_main_v51 val_main_v50 val_main_v49 val_main_v48 val_main_v47 val_main_v41 val_main_call4_v4 val_main_call4_v3
    val_main_call4_v2 val_main_call4_v1 val_main_call4_v0 masked
  pointwise
  rw [id_row, xa_own A hids]
  exact onehot _ _ _

theorem dx_row (t : Fin 1152) (d : Fin 14336) : val_main_v56 (F := Ideal) A.dy A.w A.s A.a A.b A.ids (ix2 t d) = dx A t d := by
  unfold val_main_v56 val_main_v55 val_main_v54 val_main_v53 val_main_v52 dx
  pointwise
  rw [factor, one_mul, base_dx]
  refine congrArg (_ + ·) (Finset.sum_congr rfl fun e _ => Finset.sum_congr rfl fun r _ => ?_)
  rw [g_masked A hids]

theorem res_dx : val_main_v57 (F := Ideal) A.dy A.w A.s A.a A.b A.ids = resDx A := by
  funext i
  rw [eq_ix3 (n0 := 3) (n1 := 384) (n2 := 14336) i]
  exact (unflat_rows _ _ (i 0) (i 1) (i 2)).trans (dx_row A hids _ _)

theorem da_at (e : Fin 5) (d : Fin 14336) (r : Fin 16) : val_main_v61 (F := Ideal) A.x A.dy A.b A.ids (ix3 e d r) = da A e d r := by
  unfold val_main_v61 val_main_v60 val_main_v59 val_main_v58 da
  pointwise
  rw [factor, one_mul]
  refine Finset.sum_congr rfl fun t _ => ?_
  rw [g_masked A hids, x_row]

theorem res_da : val_main_v61 (F := Ideal) A.x A.dy A.b A.ids = resDa A := by
  funext i
  rw [eq_ix3 (n0 := 5) (n1 := 14336) (n2 := 16) i]
  exact da_at A hids (i 0) (i 1) (i 2)

theorem db_at (e : Fin 5) (r : Fin 16) (n : Fin 4096) : val_main_v64 (F := Ideal) A.x A.dy A.a A.ids (ix3 e r n) = db A e r n := by
  unfold val_main_v64 val_main_v63 val_main_v62 db
  pointwise
  rw [factor, one_mul]
  refine Finset.sum_congr rfl fun t _ => ?_
  rw [xa_masked A hids, dy_row]

theorem res_db : val_main_v64 (F := Ideal) A.x A.dy A.a A.ids = resDb A := by
  funext i
  rw [eq_ix3 (n0 := 5) (n1 := 16) (n2 := 4096) i]
  exact db_at A hids (i 0) (i 1) (i 2)

theorem res_g : val_main_v65 (F := Ideal) A.dy A.b A.ids = resG A := by
  funext i
  rw [eq_ix3 (n0 := 3) (n1 := 384) (n2 := 16) i]
  exact (unflat_rows _ _ (i 0) (i 1) (i 2)).trans (g_own A hids _ _)

theorem res_xa : val_main_v66 (F := Ideal) A.x A.a A.ids = resXa A := by
  funext i
  rw [eq_ix3 (n0 := 3) (n1 := 384) (n2 := 16) i]
  exact (unflat_rows _ _ (i 0) (i 1) (i 2)).trans (xa_own A hids _ _)

end Cert.ReferenceIdeal.Ref

end
-- ==== Proof.Ref.Final.lean ====
/- THE REFERENCE'S RUN: from arguments whose ids all name an adapter it ends with the layer's five results, its arguments unchanged. -/
module

public import proofs.«01_k».proof.Proof.Ref.Results
public import proofs.«01_k».proof.Proof.Gen.ReferenceIdeal.Run

@[expose] public section

set_option maxRecDepth 16384

noncomputable section

namespace Cert.ReferenceIdeal.Ref

open Cert.ReferenceIdeal Cert.ReferenceIdeal.Gen Cert.ReferenceIdeal.Read Cert.Layer
open Idealize.ShloMosaic Idealize.ShloMosaic.TcCoe
open Idealize.SL.Sem

variable (m : (ℓ : Loc nD τ sig) → Buf (Elt Ideal) ℓ)

/-- The arguments of core `c`. -/
def argsOf (c : Dev nD) : Args where
  x := m ((c.tc : Thread nD τ).loc main_arg0)
  dy := m ((c.tc : Thread nD τ).loc main_arg1)
  w := m ((c.tc : Thread nD τ).loc main_arg2)
  s := m ((c.tc : Thread nD τ).loc main_arg3)
  a := m ((c.tc : Thread nD τ).loc main_arg4)
  b := m ((c.tc : Thread nD τ).loc main_arg5)
  ids := m ((c.tc : Thread nD τ).loc main_arg6)

/-- THE RESULTS OF THE REFERENCE. -/
theorem results (ρ : Dev nD → PrngReg)
    (hids : ∀ c t, idAt (argsOf m c) t = BitVec.ofNat 32 (adapterOf (idAt (argsOf m c) t)).val) :
    θ_run defs (onTc (τ := τ) (main (F := Ideal))) ⟨m, fun _ => 0, ρ⟩ (fun r => ∀ c : Dev nD,
      r.2.mem ((c.tc : Thread nD τ).loc main_v57) = resDx (argsOf m c)
      ∧ r.2.mem ((c.tc : Thread nD τ).loc main_v61) = resDa (argsOf m c)
      ∧ r.2.mem ((c.tc : Thread nD τ).loc main_v64) = resDb (argsOf m c)
      ∧ r.2.mem ((c.tc : Thread nD τ).loc main_v65) = resG (argsOf m c)
      ∧ r.2.mem ((c.tc : Thread nD τ).loc main_v66) = resXa (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c).1.trans ((val_main_v57_eq (F := Ideal) m c).trans (res_dx (argsOf m c) (hids c))),
     (h c).2.1.trans ((val_main_v61_eq (F := Ideal) _ _ _ _).trans (res_da (argsOf m c) (hids c))),
     (h c).2.2.1.trans ((val_main_v64_eq (F := Ideal) _ _ _ _).trans (res_db (argsOf m c) (hids c))),
     (h c).2.2.2.1.trans ((val_main_v65_eq (F := Ideal) _ _ _).trans (res_g (argsOf m c) (hids c))),
     (h c).2.2.2.2.1.trans ((val_main_v66_eq (F := Ideal) _ _ _).trans (res_xa (argsOf m c) (hids c))),
     (h c).2.2.2.2.2⟩)
    (Cert.ReferenceIdeal.Value.run (F := Ideal) m ρ)

end Cert.ReferenceIdeal.Ref

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_ids_name_an_adapter
public import proofs.«01_k».proof.Proof.Kern.Frame
public import proofs.«01_k».proof.Proof.Kern.Word
public import proofs.«01_k».proof.Proof.Kern.Final
public import proofs.«01_k».proof.Proof.Ref.Final
public import Idealize.ShloMosaic.Adequacy
public import Idealize.ShloMosaic.Init

@[expose] public section

noncomputable section

namespace Cert.Proof

open Idealize.ShloMosaic Idealize.SL.Sem Cert.Kernel

/-- The reference runs, leaves its arguments as they were, and declares no semaphore. -/
theorem frame_r : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

/-- An id word that is at least 0 and below 5 is the number of the adapter it names. -/
theorem id_of_bounds (v : BitVec 32)
    (h : IntOp.andi (IntOp.cmpi CmpIPredicate.sge v 0#32) (IntOp.cmpi CmpIPredicate.slt v 5#32) = 1#1) :
    v = BitVec.ofNat 32 (Cert.Layer.adapterOf v).val := by
  have hb : (0#32).sle v = true ∧ v.slt 5#32 = true := by
    have h' : BitVec.ofBool ((0#32).sle v) &&& BitVec.ofBool (v.slt 5#32) = 1#1 := h
    revert h'
    generalize (0#32).sle v = p
    generalize v.slt 5#32 = q
    revert p q
    decide
  have h0 : 0 ≤ v.toInt := by simpa [BitVec.sle] using hb.1
  have h5 : v.toInt < 5 := by simpa [BitVec.slt] using hb.2
  have key : ∀ k : ℤ, v.toInt = k → v = BitVec.ofInt 32 k := fun k hk => by rw [← hk, BitVec.ofInt_toInt]
  have hc : v.toInt = 0 ∨ v.toInt = 1 ∨ v.toInt = 2 ∨ v.toInt = 3 ∨ v.toInt = 4 := by omega
  rcases hc with hk | hk | hk | hk | hk <;> (rw [key _ hk]; decide)

/-- Under the precondition every token's id names an adapter. -/
theorem ids_named (m : (ℓ : Loc Cert.KernelIdeal.nD Cert.KernelIdeal.τ Cert.KernelIdeal.sig) → Buf (Elt Ideal) ℓ)
    (hp : Cert.Pre_KernelIdeal_ids_name_an_adapter m) (c : Dev Cert.KernelIdeal.nD) (t : Fin 1152) :
    Cert.Layer.idAt (Cert.KernelIdeal.Kern.argsOf m c) t
      = BitVec.ofNat 32 (Cert.Layer.adapterOf (Cert.Layer.idAt (Cert.KernelIdeal.Kern.argsOf m c) t)).val :=
  id_of_bounds _ (congrFun (hp c) (ix2 (Cert.Layer.seqOf t) (Cert.Layer.posOf t)))

theorem value : Cert.algebraic_KernelIdeal_ReferenceIdeal_pre_ids_name_an_adapter := by
  intro m g m' g' hp hargs
  have ha : ∀ c, Cert.ReferenceIdeal.Ref.argsOf m' c = Cert.KernelIdeal.Kern.argsOf m c := by
    intro c
    obtain ⟨h0, h1, h2, h3, h4, h5, h6⟩ := hargs c
    unfold Cert.ReferenceIdeal.Ref.argsOf Cert.KernelIdeal.Kern.argsOf
    rw [Cert.Layer.Args.mk.injEq]
    exact ⟨h0, h1, h2, h3, h4, h5, h6⟩
  have hids : ∀ c t, Cert.Layer.idAt (Cert.ReferenceIdeal.Ref.argsOf m' c) t
      = BitVec.ofNat 32 (Cert.Layer.adapterOf (Cert.Layer.idAt (Cert.ReferenceIdeal.Ref.argsOf m' c) t)).val := by
    intro c t
    rw [ha c]
    exact ids_named m hp c t
  refine ⟨fun c => Cert.Layer.resDx (Cert.KernelIdeal.Kern.argsOf m c), fun c => Cert.Layer.resDa (Cert.KernelIdeal.Kern.argsOf m c),
    fun c => Cert.Layer.resDb (Cert.KernelIdeal.Kern.argsOf m c), fun c => Cert.Layer.resG (Cert.KernelIdeal.Kern.argsOf m c),
    fun c => Cert.Layer.resXa (Cert.KernelIdeal.Kern.argsOf m c), Cert.KernelIdeal.Kern.results m g, ?_⟩
  refine (θ_run Cert.ReferenceIdeal.defs _ _).mono (fun r h c => ?_) (Cert.ReferenceIdeal.Ref.results m' g' hids)
  have hc := h c
  rw [ha c] at hc
  exact hc

theorem claim : Cert.Claim := ⟨Cert.Kernel.Gen.facts, Cert.KernelIdeal.Gen.facts, Cert.ReferenceIdeal.Gen.facts, Cert.Pre_ids_name_an_adapter.Gen.facts,
  Cert.Kernel.Word.frame, fun m ρ _ => Cert.KernelIdeal.Kern.frame m ρ,
  fun m ρ _ => Cert.KernelIdeal.Kern.frame m ρ, frame_r, fun m ρ _ => frame_r m ρ trivial, trivial, value⟩

end Cert.Proof

end
